-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts) (hPre_finite_and_in_range : Cert.Pre_finite_and_in_range.Facts),
    quiescent_Kernel (hKernel := hKernel) (hPre_in_range := hPre_in_range)
    ∧ quiescent_KernelIdeal (hKernelIdeal := hKernelIdeal) (hPre_in_range := hPre_in_range)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S1024 : Shape := ⟨1, ![1024]⟩
abbrev S100000x16 : Shape := ⟨2, ![100000, 16]⟩
abbrev S100000 : Shape := ⟨1, ![100000]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S100000x16 : S_.BroadcastsInDim S100000x16 (![] : Fin 0 → Fin S100000x16.rank)
  reducesTo_S100000x16_S_d0_1 : S100000x16.ReducesTo [0, 1] S_

variable [Facts]

def fn_part1 {F : FTy → Type} [FloatOps F] (main_v11 : IVec S_ 1) (main_v15 : IVec S_ 1) : IVec S_ 1 :=
  let main_v16 : IVec S_ 1 := andi main_v11 main_v15
  main_v16

def fn {F : FTy → Type} [FloatOps F] (main_arg0 : IVec S1024 32) (main_arg1 : FVec F S100000x16 .f32) (main_arg2 : FVec F S100000x16 .f32) (main_arg3 : FVec F S100000 .f32) : IVec S_ 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 1 := constantI S_ 1 1#1
  let main_v2 : IVec S_ 1 := (fun x v => Host.reduce IntOp.andi x v reducesTo_S1024_S_d0 h_S_) main_v1 main_c_0
  let main_c_1 : IVec S_ 32 := constantI S_ 32 100000#32
  let main_v3 : IVec S1024 32 := broadcastInDim S1024 ![] bcast_S_S1024 main_c_1
  let main_v4 : IVec S1024 1 := cmpi .slt main_arg0 main_v3
  let main_c_2 : IVec S_ 1 := constantI S_ 1 1#1
  let main_v5 : IVec S_ 1 := (fun x v => Host.reduce IntOp.andi x v reducesTo_S1024_S_d0 h_S_) main_v4 main_c_2
  let main_v6 : IVec S_ 1 := andi main_v2 main_v5
  let main_v7 : FVec F S100000x16 .f32 := Host.absf main_arg1
  let main_cst : FVec F S_ .f32 := constant S_ .f32 0x7F800000#32
  let main_v8 : FVec F S100000x16 .f32 := broadcastInDim S100000x16 ![] bcast_S_S100000x16 main_cst
  let main_v9 : IVec S100000x16 1 := cmpf .olt main_v7 main_v8
  let main_c_3 : IVec S_ 1 := constantI S_ 1 1#1
  let main_v10 : IVec S_ 1 := (fun x v => Host.reduce IntOp.andi x v reducesTo_S100000x16_S_d0_1 h_S_) main_v9 main_c_3
  let main_v11 : IVec S_ 1 := andi main_v6 main_v10
  let main_v12 : FVec F S100000x16 .f32 := Host.absf main_arg2
  let main_cst_4 : FVec F S_ .f32 := constant S_ .f32 0x7F800000#32
  let main_v13 : FVec F S100000x16 .f32 := broadcastInDim S100000x16 ![] bcast_S_S100000x16 main_cst_4
  let main_v14 : IVec S100000x16 1 := cmpf .olt main_v12 main_v13
  let main_c_5 : IVec S_ 1 := constantI S_ 1 1#1
  let main_v15 : IVec S_ 1 := (fun x v => Host.reduce IntOp.andi x v reducesTo_S100000x16_S_d0_1 h_S_) main_v14 main_c_5
  fn_part1 (F := F) main_v11 main_v15
-- ==== Pre_in_range.lean ====
abbrev S1024 : Shape := ⟨1, ![1024]⟩
abbrev S100000x16 : Shape := ⟨2, ![100000, 16]⟩
abbrev S100000 : Shape := ⟨1, ![100000]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : IVec S1024 32) (main_arg1 : FVec F S100000x16 .f32) (main_arg2 : FVec F S100000x16 .f32) (main_arg3 : FVec F S100000 .f32) : IVec S_ 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 1 := constantI S_ 1 1#1
  let main_v2 : IVec S_ 1 := (fun x v => Host.reduce IntOp.andi x v reducesTo_S1024_S_d0 h_S_) main_v1 main_c_0
  let main_c_1 : IVec S_ 32 := constantI S_ 32 100000#32
  let main_v3 : IVec S1024 32 := broadcastInDim S1024 ![] bcast_S_S1024 main_c_1
  let main_v4 : IVec S1024 1 := cmpi .slt main_arg0 main_v3
  let main_c_2 : IVec S_ 1 := constantI S_ 1 1#1
  let main_v5 : IVec S_ 1 := (fun x v => Host.reduce IntOp.andi x v reducesTo_S1024_S_d0 h_S_) main_v4 main_c_2
  let main_v6 : IVec S_ 1 := andi main_v2 main_v5
  main_v6
-- ==== Kernel.lean ====
abbrev S1024 : Shape := ⟨1, ![1024]⟩
abbrev S100000x16 : Shape := ⟨2, ![100000, 16]⟩
abbrev S100000 : Shape := ⟨1, ![100000]⟩
abbrev S12500x128 : Shape := ⟨2, ![12500, 128]⟩
abbrev S_ : Shape := ⟨0, ![]⟩
abbrev S1024x1 : Shape := ⟨2, ![1024, 1]⟩
abbrev S1024x128 : Shape := ⟨2, ![1024, 128]⟩
abbrev S32 : Shape := ⟨1, ![32]⟩
abbrev S32x128 : Shape := ⟨2, ![32, 128]⟩
abbrev S16x100000 : Shape := ⟨2, ![16, 100000]⟩
abbrev S1x100000 : Shape := ⟨2, ![1, 100000]⟩
abbrev S6x100000 : Shape := ⟨2, ![6, 100000]⟩
abbrev S24x100000 : Shape := ⟨2, ![24, 100000]⟩
abbrev S24x1 : Shape := ⟨2, ![24, 1]⟩
abbrev S1 : Shape := ⟨1, ![1]⟩
abbrev S2 : Shape := ⟨1, ![2]⟩
abbrev S24x2400 : Shape := ⟨2, ![24, 2400]⟩
abbrev S24x102400 : Shape := ⟨2, ![24, 102400]⟩
abbrev S1024x24 : Shape := ⟨2, ![1024, 24]⟩
abbrev S1024x16 : Shape := ⟨2, ![1024, 16]⟩
abbrev S16x102400 : Shape := ⟨2, ![16, 102400]⟩
abbrev S102400 : Shape := ⟨1, ![102400]⟩
abbrev S1x102400 : Shape := ⟨2, ![1, 102400]⟩
abbrev S1x1 : Shape := ⟨2, ![1, 1]⟩
abbrev S1x1x100000 : Shape := ⟨3, ![1, 1, 100000]⟩
abbrev S1x1x1 : Shape := ⟨3, ![1, 1, 1]⟩
abbrev S1024x6 : Shape := ⟨2, ![1024, 6]⟩
abbrev S24x4096 : Shape := ⟨2, ![24, 4096]⟩
abbrev S1024x4096 : Shape := ⟨2, ![1024, 4096]⟩
abbrev S1024x100000 : Shape := ⟨2, ![1024, 100000]⟩
abbrev S24x2048 : Shape := ⟨2, ![24, 2048]⟩
abbrev S1024x2048 : Shape := ⟨2, ![1024, 2048]⟩

abbrev nBuf : Table → Nat
  | .hbm => 33
  | .local .tc .vmem => 11
  | .local .scVector .vmem => 2
  | _ => 0

abbrev bufTy : (tb : Table) → Fin (nBuf tb) → BufTy
  | .hbm, ⟨0, _⟩ => ⟨S1024, .i32⟩
  | .hbm, ⟨1, _⟩ => ⟨S100000x16, .f32⟩
  | .hbm, ⟨2, _⟩ => ⟨S100000x16, .f32⟩
  | .hbm, ⟨3, _⟩ => ⟨S100000, .f32⟩
  | .hbm, ⟨4, _⟩ => ⟨S12500x128, .f32⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S1024x128, .f32⟩
  | .hbm, ⟨13, _⟩ => ⟨S16x100000, .f32⟩
  | .hbm, ⟨14, _⟩ => ⟨S1x100000, .f32⟩
  | .hbm, ⟨15, _⟩ => ⟨S_, .f32⟩
  | .hbm, ⟨16, _⟩ => ⟨S1x100000, .f32⟩
  | .hbm, ⟨17, _⟩ => ⟨S_, .f32⟩
  | .hbm, ⟨18, _⟩ => ⟨S6x100000, .f32⟩
  | .hbm, ⟨19, _⟩ => ⟨S24x100000, .f32⟩
  | .hbm, ⟨20, _⟩ => ⟨S_, .f32⟩
  | .hbm, ⟨21, _⟩ => ⟨S24x1, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S_, .f32⟩
  | .hbm, ⟨28, _⟩ => ⟨S24x1, .f32⟩
  | .hbm, ⟨29, _⟩ => ⟨S24x2400, .f32⟩
  | .hbm, ⟨30, _⟩ => ⟨S24x102400, .f32⟩
  | .hbm, ⟨31, _⟩ => ⟨S1024x24, .f32⟩
  | .hbm, ⟨32, _⟩ => ⟨S1024x100000, .f32⟩
  | .local .tc .vmem, ⟨0, _⟩ => ⟨S1024x128, .f32⟩
  | .local .tc .vmem, ⟨1, _⟩ => ⟨S1024x1, .i32⟩
  | .local .tc .vmem, ⟨2, _⟩ => ⟨S24x102400, .f32⟩
  | .local .tc .vmem, ⟨3, _⟩ => ⟨S1024x24, .f32⟩
  | .local .tc .vmem, ⟨4, _⟩ => ⟨S1024x24, .f32⟩
  | .local .tc .vmem, ⟨5, _⟩ => ⟨S1024x128, .f32⟩
  | .local .tc .vmem, ⟨6, _⟩ => ⟨S1024x24, .f32⟩
  | .local .tc .vmem, ⟨7, _⟩ => ⟨S24x2048, .f32⟩
  | .local .tc .vmem, ⟨8, _⟩ => ⟨S24x2048, .f32⟩
  | .local .tc .vmem, ⟨9, _⟩ => ⟨S1024x2048, .f32⟩
  | .local .tc .vmem, ⟨10, _⟩ => ⟨S1024x2048, .f32⟩
  | .local .scVector .vmem, ⟨0, _⟩ => ⟨S32, .i32⟩
  | .local .scVector .vmem, ⟨1, _⟩ => ⟨S32x128, .f32⟩
  | _, _ => ⟨S1024, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_c_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v0_scv : Ref sig .scVector := ⟨.hbm, 4, rfl⟩
abbrev main_v2_scv : Ref sig .scVector := ⟨.hbm, 7, rfl⟩
abbrev main_v6_scv : Ref sig .scVector := ⟨.hbm, 12, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_scratch0 : Ref sig .tc := ⟨.vmem, 4, rfl⟩
abbrev cc1_scratch1 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg1_1 : Ref sig .tc := ⟨.vmem, 8, rfl⟩
abbrev cc2_stg2_0 : Ref sig .tc := ⟨.vmem, 9, rfl⟩
abbrev cc2_stg2_1 : Ref sig .tc := ⟨.vmem, 10, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem2_0 : DmaSem sig := 5
abbrev cc1_sem3_0 : DmaSem sig := 6
abbrev cc2_sem0_0 : DmaSem sig := 7
abbrev cc2_sem1_0 : DmaSem sig := 8
abbrev cc2_sem1_1 : DmaSem sig := 9
abbrev cc2_sem2_0 : DmaSem sig := 10
abbrev cc2_sem2_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_3_r1 : BitVec 32 := 0#32
  ![v2.toNat, 0]
abbrev grid1 : Pipeline.Grid := ⟨1, ![25], ![false]⟩

def k1_off1 (i : grid1.Coords) : Fin 2 → Nat :=
  let c0_2 : Index := 0#32
  let arg0 : BitVec 32 := BitVec.ofNat 32 (i 0).val
  let c4096_i32 : BitVec 32 := 4096#32
  let v4 : BitVec 32 := Scalar.muli arg0 c4096_i32
  let v5 : Index := Scalar.indexCast v4
  ![0, v5.toNat]
def k1_cond2 (i : grid1.Coords) : BitVec 1 :=
  let arg0 : BitVec 32 := BitVec.ofNat 32 (i 0).val
  let c24_i32 : BitVec 32 := 24#32
  let v78 : BitVec 1 := Scalar.cmpi .eq arg0 c24_i32
  let v79 : BitVec 32 := Scalar.extui v78
  let c0_i32_7 : BitVec 32 := 0#32
  let v80 : BitVec 1 := Scalar.cmpi .ne v79 c0_i32_7
  v80

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S24x102400 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x24 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![49], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1024x24 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S24x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024 : Shape := ⟨1, ![1024]⟩
abbrev S100000x16 : Shape := ⟨2, ![100000, 16]⟩
abbrev S100000 : Shape := ⟨1, ![100000]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x16 : Shape := ⟨2, ![1024, 16]⟩
abbrev S16x100000 : Shape := ⟨2, ![16, 100000]⟩
abbrev S1024x100000 : Shape := ⟨2, ![1024, 100000]⟩
abbrev S1x100000 : Shape := ⟨2, ![1, 100000]⟩

abbrev nBuf : Space → Nat
  | .hbm => 47
  | .vmem => 0
  | .smem => 0
  | _ => 0

abbrev bufTy : (tb : Table) → Fin (tcTables nBuf tb) → BufTy
  | .hbm, ⟨0, _⟩ => ⟨S1024, .i32⟩
  | .hbm, ⟨1, _⟩ => ⟨S100000x16, .f32⟩
  | .hbm, ⟨2, _⟩ => ⟨S100000x16, .f32⟩
  | .hbm, ⟨3, _⟩ => ⟨S100000, .f32⟩
  | .hbm, ⟨4, _⟩ => ⟨S_, .i32⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S1, .i32⟩
  | .hbm, ⟨13, _⟩ => ⟨S_, .i32⟩
  | .hbm, ⟨14, _⟩ => ⟨S1024x1, .i32⟩
  | .hbm, ⟨15, _⟩ => ⟨S1024x1, .i1⟩
  | .hbm, ⟨16, _⟩ => ⟨S1x1, .i32⟩
  | .hbm, ⟨17, _⟩ => ⟨S1024x1, .i32⟩
  | .hbm, ⟨18, _⟩ => ⟨S1024x1, .i1⟩
  | .hbm, ⟨19, _⟩ => ⟨S1024x1, .i1⟩
  | .hbm, ⟨20, _⟩ => ⟨S_, .i1⟩
  | .hbm, ⟨21, _⟩ => ⟨S1024, .i1⟩
  | .hbm, ⟨22, _⟩ => ⟨S1024x16, .f32⟩
  | .hbm, ⟨23, _⟩ => ⟨S1024x16, .i1⟩
  | .hbm, ⟨24, _⟩ => ⟨S_, .f32⟩
  | .hbm, ⟨25, _⟩ => ⟨S1024x16, .f32⟩
  | .hbm, ⟨26, _⟩ => ⟨S1024x16, .f32⟩
  | .hbm, ⟨27, _⟩ => ⟨S16x100000, .f32⟩
  | .hbm, ⟨28, _⟩ => ⟨S1024x100000, .f32⟩
  | .hbm, ⟨29, _⟩ => ⟨S1x100000, .f32⟩
  | .hbm, ⟨30, _⟩ => ⟨S1024x100000, .f32⟩
  | .hbm, ⟨31, _⟩ => ⟨S1024x100000, .f32⟩
  | .hbm, ⟨32, _⟩ => ⟨S_, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1024x1, .f32⟩
  | .hbm, ⟨38, _⟩ => ⟨S1024x100000, .f32⟩
  | .hbm, ⟨39, _⟩ => ⟨S1024x100000, .f32⟩
  | .hbm, ⟨40, _⟩ => ⟨S1024x100000, .f32⟩
  | .hbm, ⟨41, _⟩ => ⟨S_, .f32⟩
  | .hbm, ⟨42, _⟩ => ⟨S1024, .f32⟩
  | .hbm, ⟨43, _⟩ => ⟨S1024x1, .f32⟩
  | .hbm, ⟨44, _⟩ => ⟨S1024x1, .f32⟩
  | .hbm, ⟨45, _⟩ => ⟨S1024x100000, .f32⟩
  | .hbm, ⟨46, _⟩ => ⟨S1024x100000, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_call1_cst : Ref sig .tc := ⟨.hbm, 32, rfl⟩
abbrev main_call1_v0 : Ref sig .tc := ⟨.hbm, 33, rfl⟩
abbrev main_call1_cst_0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_cst_1 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_v6 : Ref sig .tc := ⟨.hbm, 46, rfl⟩

abbrev nD : Nat := 1
abbrev τ : Topo := Topo.v7x

variable {F : FTy → Type} [FloatOps F]
-- ==== Proof.Setup.lean ====
/-
  The launch as the proof sees it: the configuration of the one SparseCore call, the body table behind it, the ghost
  state (the handshakes' rounds, the two TensorCore pipelines' rounds, the transfers' counters), and the contents the
  SparseCore call leaves — the packed rows of the embedding table that the row numbers name.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Lse

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F]

/-- The labels of the two TensorCore pipelines. -/
abbrev ΛP : Labels := Pipeline.Sig Λ₀ (Fin 2) fun p => (pcfgs (F := F) p).Adm
/-- The SparseCore call's configuration. -/
abbrev K : SparseCore.Cfg τ sig (ΛP (F := F)) 1 := sc (F := F)
/-- The body table the call's configuration is laid over. -/
abbrev D : Defs nD τ sig (Elt F) (ΛP (F := F)) := Pipeline.defs pcfgs defs₀
/-- No kernel of the program loops by recursion. -/
abbrev 𝒱₀ : Variants := Variants.none
/-- The variants over the pipelines' table. -/
abbrev 𝒱 : Variants := 𝒱₀.lift
/-- The bound each task starts under. -/
abbrev v₀ : 𝒱.V := Sum.inl none

omit [FloatOps F] in
/-- The call is on sixteen tiles of each SparseCore. -/
theorem nSub_zero [FloatOps F] : (K (F := F)).nSub 0 = 16 := rfl
/-- The call is on both SparseCores. -/
theorem nCore_zero : (K (F := F)).nCore 0 = 2 := rfl

/-- The launch's side conditions on the semaphores and the shared memory. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' ghost state. -/
abbrev UH : Type := URounds (GSem nD τ sig) ℕ
/-- The pipelines' ghost state. -/
abbrev UP : Type := URounds (GSem nD τ sig) Unit
/-- The proof's ghost state. -/
abbrev UU : Type := UH × (UP × Counters)

local notation "𝕄" => MT nD τ sig (HIx 1) (Elt F) ℕ UU ℕ

/-- Where the handshakes' state lives. -/
abbrev EH : Emb UH (MT nD τ sig (HIx 1) (Elt F) ℕ UU ℕ) := embL
/-- Where the pipelines' state lives. -/
abbrev EP : Emb UP (MT nD τ sig (HIx 1) (Elt F) ℕ UU ℕ) := (Emb.inl : Emb UP (UP × Counters)).trans embR

instance EP_landsIn : (EP (F := F)).LandsIn (upEmb : UEmb _ 𝕄) := by
  unfold EP; infer_instance

/-! ## What the gather leaves -/

/-- The table's index of lane `l` of the packed row the word `w` names. -/
def packed (w : BitVec 32) (l : Fin 128) : S12500x128.Idx := fun a =>
  match a with
  | ⟨0, _⟩ => ⟨w.toNat % 12500, Nat.mod_lt _ (by decide)⟩
  | ⟨1, _⟩ => l

/-- The one index of a list of 1024 at position `n`. -/
def at1024 (n : Fin 1024) : S1024.Idx := fun a =>
  match a with
  | ⟨0, _⟩ => n

/-- The 1024 packed rows of the table `t` that the row numbers `r` name. -/
def gathered (t : S12500x128.Idx → Elt F .f32) (r : S1024.Idx → Elt F .i32) : S1024x128.Idx → Elt F .f32 := fun x =>
  t (packed (r (at1024 (x 0))) (x 1))

end Cert.Lse

end
-- ==== Proof.Tile.lean ====
/-
  One task of the SparseCore call: vector subcore `(c, s)` fetches its 32 row numbers, gathers the packed rows they name,
  and writes them to its 32 rows of the result. Its rows of the result end at the gathered rows.
-/
module

public import proofs.«01_k».proof.Proof.Setup
public import Idealize.ShloMosaic.Lib.Pipeline.Value
public import Idealize.ShloMosaic.Lib.Pipeline.ValueKit

@[expose] public section

noncomputable section

namespace Cert.Lse

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type} [FloatOps F]

local notation "𝕄" => MT nD τ sig (HIx 1) (Elt F) ℕ UU ℕ

/-- The packed table, the row numbers and the gathered rows, as device `d` holds them. -/
abbrev tLoc (d : Dev nD) : Loc nD τ sig := (SparseCore.T d).loc main_v0
abbrev rLoc (d : Dev nD) : Loc nD τ sig := (SparseCore.T d).loc main_v2
abbrev gLoc (d : Dev nD) : Loc nD τ sig := (SparseCore.T d).loc main_v6

local notation "tV" => (Memref.whole Cert.KernelIdeal.main_v0_scv : Memref Cert.KernelIdeal.sig Kind.scVector Space.hbm Cert.KernelIdeal.S12500x128 EltTy.f32)
local notation "rV" => (Memref.whole Cert.KernelIdeal.main_v2_scv : Memref Cert.KernelIdeal.sig Kind.scVector Space.hbm Cert.KernelIdeal.S1024 EltTy.i32)
local notation "gV" => (Memref.whole Cert.KernelIdeal.main_v6_scv : Memref Cert.KernelIdeal.sig Kind.scVector Space.hbm Cert.KernelIdeal.S1024x128 EltTy.f32)
local notation "iS" => (Memref.whole Cert.KernelIdeal.cc0_scratch0 : Memref Cert.KernelIdeal.sig Kind.scVector Space.vmem Cert.KernelIdeal.S32 EltTy.i32)
local notation "wS" => (Memref.whole Cert.KernelIdeal.cc0_scratch1 : Memref Cert.KernelIdeal.sig Kind.scVector Space.vmem Cert.KernelIdeal.S32x128 EltTy.f32)

theorem div_list : 32 ∣ S1024.size 0 := ⟨32, rfl⟩
theorem div_rows : 32 ∣ S1024x128.size 0 := ⟨32, rfl⟩
/-- Block `w` of the row numbers: 32 of them. -/
abbrev listPart (w : Fin 32) : Rect S1024 := Rect.part (s := S1024) (a₀ := 0) div_list w
/-- Block `w` of the gathered rows: 32 of them. -/
abbrev rowsPart (w : Fin 32) : Rect S1024x128 := Rect.part (s := S1024x128) (a₀ := 0) div_rows w
abbrev listSet (w : Fin 32) : Finset S1024.Idx := ((rV).view.slice (listPart w)).set
abbrev rowsSet (w : Fin 32) : Finset S1024x128.Idx := ((gV).view.slice (rowsPart w)).set

/-- The block of tile `s` of SparseCore `c`. -/
def blk (c : Fin 2) (s : Fin 16) : Fin 32 := ⟨2 * s.val + c.val, by omega⟩

variable (tb : (d : Dev nD) → Buf (Elt F) (tLoc d)) (rw : (d : Dev nD) → Buf (Elt F) (rLoc d)) (g₀ : (d : Dev nD) → Buf (Elt F) (gLoc d))

/-- The gathered rows on device `d`. -/
abbrev gOut (d : Dev nD) : Buf (Elt F) (gLoc d) := gathered (F := F) (tb d) (rw d)

/-- Every row number names a packed row. -/
def RowsOK : Prop := ∀ (d : Dev nD) (j : S1024.Idx), (rw d j).toNat < 12500

/-- Block `w` of the row numbers, a share of the table, block `w` of the result. -/
abbrev listPts (d : Dev nD) (w : Fin 32) : sProp 𝕄 := rLoc d ↦[listSet w]{fullShare} rw d
abbrev tabPts (d : Dev nD) (q : PosShare TreeShare) : sProp 𝕄 := tLoc d ↦{q} tb d
abbrev rowsPts (d : Dev nD) (w : Fin 32) (f : Buf (Elt F) (gLoc d)) : sProp 𝕄 := gLoc d ↦[rowsSet w]{fullShare} f

section Task

variable (d : Dev nD) (L : grid0.Coords)

abbrev cV (L : grid0.Coords) : Fin τ.nSC := (L 0).castLE hcore0
abbrev sV (L : grid0.Coords) : Fin τ.nSub := (L 1).castLE hsub0
theorem bound_zero : grid0.bound 0 = 2 := rfl
theorem bound_one : grid0.bound 1 = 16 := rfl
/-- The task's block. -/
abbrev wL (L : grid0.Coords) : Fin 32 := blk (Fin.cast bound_zero (L 0)) (Fin.cast bound_one (L 1))

abbrev listRect (L : grid0.Coords) : Rect S1024 := Rect.unit (s := S1024) (k0_off1 L) S32.size (k0_off1_inb L)
abbrev rowsRect (L : grid0.Coords) : Rect S1024x128 := Rect.unit (s := S1024x128) (k0_off2 L) S32x128.size (k0_off2_inb L)
abbrev listM (L : grid0.Coords) : Memref sig .scVector .hbm S32 .i32 := (rV).slice (listRect L) (fun _ => rfl)
abbrev rowsM (L : grid0.Coords) : Memref sig .scVector .hbm S32x128 .f32 := (gV).slice (rowsRect L) (fun _ => rfl)
abbrev tabM : Memref sig .scVector .hbm S12500x128 .f32 := (tV).slice (Rect.unit (s := S12500x128) ![0, 0] S12500x128.size inb_S12500x128_S12500x128_0_0) (fun _ => rfl)

theorem listRect_eq : listRect L = listPart (wL L) := by
  unfold listRect listPart Rect.part Rect.block
  congr 1 <;> funext a
  · rw [k0_off1_eq]
    match a with
    | 0 =>
      have h0 : (Fin.cast bound_zero (L 0)).val = (L 0).val := rfl
      have h1 : (Fin.cast bound_one (L 1)).val = (L 1).val := rfl
      simp only [Shape.partIx, Shape.partSize, blk, h0, h1]; simp; omega
  · match a with
    | 0 => simp [Shape.partSize]
theorem rowsRect_eq : rowsRect L = rowsPart (wL L) := by
  unfold rowsRect rowsPart Rect.part Rect.block
  congr 1 <;> funext a
  · rw [k0_off2_eq]
    match a with
    | 0 =>
      have h0 : (Fin.cast bound_zero (L 0)).val = (L 0).val := rfl
      have h1 : (Fin.cast bound_one (L 1)).val = (L 1).val := rfl
      simp only [Shape.partIx, Shape.partSize, blk, h0, h1]; simp; omega
    | 1 => simp [Shape.partIx, Shape.partSize]
  · match a with
    | 0 => simp [Shape.partSize]
    | 1 => simp [Shape.partSize]

theorem set_listM : (listM L).view.set = listSet (wL L) := by
  show ((rV).view.slice (listRect L)).set = ((rV).view.slice (listPart (wL L))).set
  exact listRect_eq L ▸ rfl
theorem set_rowsM : (rowsM L).view.set = rowsSet (wL L) := by
  show ((gV).view.slice (rowsRect L)).set = ((gV).view.slice (rowsPart (wL L))).set
  exact rowsRect_eq L ▸ rfl

theorem pts_listM (f : Buf (Elt F) (rLoc d)) :
    ((listM L).view.loc (V d (cV L) (sV L)) ↦[(listM L).view.set]{fullShare} f : sProp 𝕄) = rLoc d ↦[listSet (wL L)]{fullShare} f := by
  rw [set_listM]
theorem pts_rowsM (f : Buf (Elt F) (gLoc d)) :
    ((rowsM L).view.loc (V d (cV L) (sV L)) ↦[(rowsM L).view.set]{fullShare} f : sProp 𝕄) = gLoc d ↦[rowsSet (wL L)]{fullShare} f := by
  rw [set_rowsM]
theorem pts_tV (q : PosShare TreeShare) (f : Buf (Elt F) (tLoc d)) :
    ((tV).view.loc (V d (cV L) (sV L)) ↦{q} f : sProp 𝕄) = tLoc d ↦{q} f := rfl
theorem pts_iS (f : Buf (Elt F) ((V d (cV L) (sV L)).loc cc0_scratch0)) :
    ((iS).view.loc (V d (cV L) (sV L)) ↦{fullShare} f : sProp 𝕄) = (V d (cV L) (sV L)).loc cc0_scratch0 ↦{fullShare} f := rfl
theorem pts_wS (f : Buf (Elt F) ((V d (cV L) (sV L)).loc cc0_scratch1)) :
    ((wS).view.loc (V d (cV L) (sV L)) ↦{fullShare} f : sProp 𝕄) = (V d (cV L) (sV L)).loc cc0_scratch1 ↦{fullShare} f := rfl

/-- The task's three semaphores: the list's fetch, the gather's, the write-out's. -/
abbrev cellA (d : Dev nD) (c : Fin τ.nSC) (i : Fin τ.nSub) : GSem nD τ sig := (V d c i, .dma cc0_scoped0.sem)
abbrev cellB (d : Dev nD) (c : Fin τ.nSC) (i : Fin τ.nSub) : GSem nD τ sig := (V d c i, .dma cc0_scratch2.sem)
abbrev cellC (d : Dev nD) (c : Fin τ.nSC) (i : Fin τ.nSub) : GSem nD τ sig := (V d c i, .dma cc0_scoped1.sem)

/-- The task's own semaphores: the three and the rest. -/
theorem ownSems0_V :
    (ownSems0 (V d (cV L) (sV L)) : sProp 𝕄)
      = iprop(semVal (cellA d (cV L) (sV L)) 0 ∗ semVal (cellB d (cV L) (sV L)) 0 ∗ semVal (cellC d (cV L) (sV L)) 0
          ∗ bigSep ((((ownCells (V d (cV L) (sV L))).erase (cellA d (cV L) (sV L))).erase (cellB d (cV L) (sV L))).erase (cellC d (cV L) (sV L))) fun g => semVal g 0) := by
  unfold SparseCore.Cfg.ownSems0
  rw [SparseCore.bigSep_erase' ((mem_ownCells (g := cellA d (cV L) (sV L))).mpr ⟨rfl, by
      show (SemLoc.dma cc0_scoped0.sem : SemLoc sig).isScoped .scVector = true; decide⟩),
    SparseCore.bigSep_erase' (Finset.mem_erase.mpr ⟨by simp [cellA, cellB]; decide, (mem_ownCells (g := cellB d (cV L) (sV L))).mpr ⟨rfl, by
      show (SemLoc.dma cc0_scratch2.sem : SemLoc sig).isScoped .scVector = true; decide⟩⟩),
    SparseCore.bigSep_erase' (Finset.mem_erase.mpr ⟨by simp [cellB, cellC]; decide, Finset.mem_erase.mpr ⟨by simp [cellA, cellC]; decide,
      (mem_ownCells (g := cellC d (cV L) (sV L))).mpr ⟨rfl, by show (SemLoc.dma cc0_scoped1.sem : SemLoc sig).isScoped .scVector = true; decide⟩⟩⟩)]

/-- The task's own buffers: the two scratch buffers and the rest. -/
theorem ownBufs_V :
    (ownBufs (V d (cV L) (sV L)) : sProp 𝕄)
      = iprop((∃ f, (V d (cV L) (sV L)).loc cc0_scratch0 ↦{fullShare} f) ∗ (∃ f, (V d (cV L) (sV L)).loc cc0_scratch1 ↦{fullShare} f)
          ∗ bigSep (((ownRefs (τ := τ) (.scVector (cV L) (sV L))).erase ((Proc.scVector (cV L) (sV L)).devRef cc0_scratch0)).erase
              ((Proc.scVector (cV L) (sV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (sV L))
    (b := (Proc.scVector (cV L) (sV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (sV L)) (b := (Proc.scVector (cV L) (sV L)).devRef cc0_scratch1) rfl⟩)]

/-- The list the gather reads holds the task's block of the row numbers. -/
theorem list_read (fs : Buf (Elt F) ((V d (cV L) (sV L)).loc cc0_scratch0)) (pay : S32.Idx → Elt F .i32)
    (hpay : pay = (listM L).view.read (Elt F) (rw d)) (x : S32.Idx) :
    (iS).view.read (Elt F) (View.write (Elt F) (iS).view fs pay Finset.univ) x = rw d ((listM L).view.emb x) := by
  subst hpay
  rw [View.write_whole_univ]
  simp only [Memref.view_whole, View.read_whole]
  exact (View.read_apply _ _).trans (cast_eq _ _)

/-- So every word of it names a packed row. -/
theorem list_inb (hok : RowsOK (F := F) rw) (fs : Buf (Elt F) ((V d (cV L) (sV L)).loc cc0_scratch0)) (pay : S32.Idx → Elt F .i32)
    (hpay : pay = (listM L).view.read (Elt F) (rw d)) :
    ∀ x, ((iS).view.read (Elt F) (View.write (Elt F) (iS).view fs pay Finset.univ) x).toNat < S12500x128.size gathers_S12500x128_S32x128.axis := fun x => by
  rw [list_read rw d L fs pay hpay]; exact hok d _

/-- What the task gathers into row `j 0`, lane `j 1` of its scratch is the result's element there. -/
theorem payload_eq (hok : RowsOK (F := F) rw) (fs : Buf (Elt F) ((V d (cV L) (sV L)).loc cc0_scratch0)) (pay : S32.Idx → Elt F .i32)
    (hpay : pay = (listM L).view.read (Elt F) (rw d)) (j : S32x128.Idx) :
    SparseCore.gatherPayload gathers_S12500x128_S32x128 ((tabM).view.read (Elt F) (tb d))
        (SparseCore.rows ((iS).view.read (Elt F) (View.write (Elt F) (iS).view fs pay Finset.univ)) rfl (list_inb rw d L hok fs pay hpay)) j
      = gOut tb rw d ((rowsM L).view.emb j) := by
  unfold SparseCore.gatherPayload gOut gathered
  refine ((View.read_apply _ _).trans (cast_eq _ _)).trans (congrArg (tb d) (funext fun a => Fin.ext ?_))
  have hr : ∀ x, ((iS).view.read (Elt F) (View.write (Elt F) (iS).view fs pay Finset.univ) x).toNat = (rw d ((listM L).view.emb x)).toNat :=
    fun x => congrArg _ (list_read rw d L fs pay hpay x)
  have hj : ((rowsM L).view.emb j 0).val = (64 * (L 1).val + 32 * (L 0).val) + (j 0).val := by
    refine (ValueKit.view_emb_slice_whole_unit_val main_v6_scv _ _ _ j 0).trans ?_
    exact congrArg (· + (j 0).val) (congrFun (k0_off2_eq L) 0)
  have hj1 : ((rowsM L).view.emb j 1).val = (j 1).val := by
    refine (ValueKit.view_emb_slice_whole_unit_val main_v6_scv _ _ _ j 1).trans ?_
    exact (congrArg (· + (j 1).val) (congrFun (k0_off2_eq L) 1)).trans (Nat.zero_add _)
  match a with
  | ⟨0, _⟩ =>
    refine (ValueKit.view_emb_slice_whole_unit_val main_v0_scv _ _ _ _ 0).trans ?_
    refine (Nat.zero_add _).trans ?_
    refine (congrArg Fin.val (Shape.Gathers.idx_axis gathers_S12500x128_S32x128 _ j)).trans ?_
    refine (hr _).trans ?_
    show _ = (rw d (at1024 _)).toNat % 12500
    rw [Nat.mod_eq_of_lt (hok d _)]
    refine congrArg (fun z => (rw d z).toNat) (funext fun b => ?_)
    match b with
    | ⟨0, _⟩ =>
      refine Fin.ext (Eq.trans ?_ hj.symm)
      refine (ValueKit.view_emb_slice_whole_unit_val main_v2_scv _ _ _ _ 0).trans ?_
      refine congrArg₂ (· + ·) (congrFun (k0_off1_eq L) 0) ?_
      refine (Shape.rowMajor_val_one (d := ![32]) _).symm.trans ?_
      exact congrArg Fin.val (Equiv.apply_symm_apply (Shape.rowMajor (⟨1, ![32]⟩ : Shape)) _)
  | ⟨1, _⟩ =>
    refine (ValueKit.view_emb_slice_whole_unit_val main_v0_scv _ _ _ _ 1).trans ?_
    refine (Nat.zero_add _).trans ?_
    refine (Shape.Gathers.idx_of_ne gathers_S12500x128_S32x128 _ j 1 (by decide)).trans ?_
    exact hj1.symm

/-- The result's rows of the task, written with what its row scratch holds after the gather, are the gathered rows. -/
theorem rows_written (hok : RowsOK (F := F) rw) (fs : Buf (Elt F) ((V d (cV L) (sV L)).loc cc0_scratch0)) (pay : S32.Idx → Elt F .i32)
    (hpay : pay = (listM L).view.read (Elt F) (rw d)) (fr : Buf (Elt F) ((V d (cV L) (sV L)).loc cc0_scratch1)) (g : Buf (Elt F) (gLoc d))
    (out : S32x128.Idx → Elt F .f32)
    (hout : out = (wS).view.read (Elt F) (View.write (Elt F) (wS).view fr (SparseCore.gatherPayload gathers_S12500x128_S32x128 ((tabM).view.read (Elt F) (tb d))
        (SparseCore.rows ((iS).view.read (Elt F) (View.write (Elt F) (iS).view fs pay Finset.univ)) rfl (list_inb rw d L hok fs pay hpay))) Finset.univ)) :
    ∀ i ∈ (rowsM L).view.set, (rowsM L).view.writes (Elt F) g [⟨Rect.whole S32x128, out⟩] i = gOut tb rw d i := fun i hi => by
  obtain ⟨j, rfl⟩ := View.exists_emb_of_mem_set (rowsM L).view hi
  rw [← View.write_univ_eq_writes_whole, View.write_emb_of_mem _ _ (Finset.mem_univ j), hout, View.write_whole_univ]
  simp only [Memref.view_whole, View.read_whole]
  exact (cast_eq _ _).trans (payload_eq tb rw d L hok fs pay hpay j)

set_option maxHeartbeats 4000000 in
/-- The task on vector subcore `(L 0, L 1)` of device `d`: it leaves the gathered rows in its rows of the result, and
    everything else it held as it was. -/
theorem tile_body (hF : (K (F := F)).Facts) (hok : RowsOK (F := F) rw) (q : PosShare TreeShare) (O : CellTallies nD τ sig (HIx 1)) (W : Waits sig (HIx 1)) (hO : ∀ g, O g none = 0) :
    iprop(levAts (K (F := F)).L (K (F := F)).lev ∗ emp
        ∗ (listPts rw d (wL L) ∗ tabPts tb d q ∗ rowsPts d (wL L) (g₀ d))
        ∗ scopedBufs (V d (cV L) (sV L)) ∗ scopedSems0 (V d (cV L) (sV L)) ∗ owes (V d (cV L) (sV L)) O W)
      ⊢ wp frame (wpE (defs₀ (F := F)) 𝒱₀ (V d (cV L) (sV L)) none) Set.univ
          (cc0_gather_k L tV (Memref.isWhole_whole _) rV (Memref.isWhole_whole _) gV (Memref.isWhole_whole _)
            iS (Memref.isWhole_whole _) wS (Memref.isWhole_whole _) cc0_scratch2 cc0_scoped0 cc0_scoped1)
          fun _ => iprop((listPts rw d (wL L) ∗ tabPts tb d q ∗ rowsPts d (wL L) (gOut tb rw d))
            ∗ scopedBufs (V d (cV L) (sV L)) ∗ scopedSems0 (V d (cV L) (sV L))
            ∗ ∃ W', ⌜∀ p ∈ W', p ∈ W ∨ p.2 = none⌝ ∗ owes (V d (cV L) (sV L)) O W') := by
  simp only [cc0_gather_k_eq_skeleton]; unfold cc0_gather_k_skel
  rw [(K (F := F)).scopedBufs_V hF d (cV L) (sV L), SparseCore.Cfg.scopedSems0_V (Val := Elt F) d (cV L) (sV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (sV L)) (default : HIx 1) O from
    (K (F := F)).mayWaits_none (thr := V d (cV L) (sV L)) hO) $$ Hlv
  ihave Hi' := (Entails.of_eq (pts_listM (F := F) d L _).symm) $$ Hi
  ihave Ho' := (Entails.of_eq (pts_rowsM (F := F) d L _).symm) $$ Ho
  ihave Hx' := (Entails.of_eq (pts_tV (F := F) d L _ _).symm) $$ Hx
  ihave Hs' := (Entails.of_eq (pts_iS (F := F) d L _).symm) $$ Hs
  ihave Hr' := (Entails.of_eq (pts_wS (F := F) d L _).symm) $$ Hr
  sl_exec
  ihave Hxs := (pointsTo_split_subset (q := q) (f := tb d) (S := Finset.univ) (Finset.subset_univ (tabM).view.set)).1 $$ Hx'
  icases Hxs with ⟨Hxs, Hxr⟩
  have hrs : (wS).view.set = Finset.univ := View.set_whole _
  have hss : (iS).view.set = Finset.univ := View.set_whole _
  ihave Hr'' := (Entails.of_eq (show ((wS).view.loc (V d (cV L) (sV L)) ↦{fullShare} fr : sProp 𝕄)
      = (wS).view.loc (V d (cV L) (sV L)) ↦[(wS).view.set]{fullShare} fr by rw [hrs])) $$ Hr'
  ihave Hs'' := (Entails.of_eq (show ((iS).view.loc (V d (cV L) (sV L)) ↦{fullShare} View.write (Elt F) (iS).view fs (tile_body.sl.dma0 rw d L) Finset.univ : sProp 𝕄)
      = (iS).view.loc (V d (cV L) (sV L)) ↦[(iS).view.set]{fullShare} View.write (Elt F) (iS).view fs (tile_body.sl.dma0 rw d L) Finset.univ
      by rw [hss])) $$ Hs'
  have hN : ∀ h : S12500x128.Gathers 0 S32x128, ∑ j, ((wS).slice (S32x128.rowRect h.axis' j) (S32x128.stride_rowRect h.axis' j)).view.dmaCredit
      = (wS).view.dmaCredit := by decide
  iapply (SparseCore.wp_indirectGatherLocal countersEmb 𝒱₀ (V d (cV L) (sV L)) none (hg := gathers_S12500x128_S32x128) (default : HIx 1)
      (wS).view.dmaCredit (hN _) (by decide) (list_inb rw d L hok fs _ rfl)) $$ [Hxs Hr'' Hs'' HsemB]
  · isplitl [Hxs]; · iexact Hxs
    isplitl [Hr'']; · iexact Hr''
    isplitl [Hs'']; · iexact Hs''
    iexact HsemB
  iintro Hfl
  sl_exec
  iapply (Transfers.wp_waitLocalO countersEmb 𝒱₀ (V d (cV L) (sV L)) none (default : HIx 1) (rfl : (wS).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemB, HO⟩
  ihave Hx' := (pointsTo_split_subset (q := q) (f := tb d) (S := Finset.univ) (Finset.subset_univ (tabM).view.set)).2 $$ [Hxs Hxr]; · isplitl [Hxs] <;> iassumption
  ihave Hr3 := (Entails.of_eq (show ((wS).view.loc (V d (cV L) (sV L)) ↦[(wS).view.set]{fullShare} _ : sProp 𝕄)
      = (wS).view.loc (V d (cV L) (sV L)) ↦{fullShare} _ by rw [hrs])) $$ Hr'
  ihave Hs3 := (Entails.of_eq (show ((iS).view.loc (V d (cV L) (sV L)) ↦[(iS).view.set]{fullShare} _ : sProp 𝕄)
      = (iS).view.loc (V d (cV L) (sV L)) ↦{fullShare} _ by rw [hss])) $$ Hs'
  sl_exec
  sl_step
  isplitl [Hi' Hx' Ho']
  · isplitl [Hi']; · iapply (Entails.of_eq (pts_listM (F := F) d L _)); iexact Hi'
    isplitl [Hx']; · iexact Hx'
    iapply (Entails.of_eq (pts_rowsM (F := F) d L _))
    iapply (Entails.of_eq (pointsTo_congr (rows_written tb rw d L hok fs _ rfl fr (g₀ d) _ rfl))); iexact Ho'
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Task

end Cert.Lse

end
-- ==== Proof.Call.lean ====
/-
  The SparseCore call as a whole: what the handshakes carry, each task's obligation, and the call's operands split into
  the 32 tasks' parts and joined again. The call leaves the gathered rows.
-/
module

public import proofs.«01_k».proof.Proof.Tile

@[expose] public section

noncomputable section

namespace Cert.Lse

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type} [FloatOps F]

local notation "𝕄" => MT nD τ sig (HIx 1) (Elt F) ℕ UU ℕ

local notation "tV" => (Memref.whole Cert.KernelIdeal.main_v0_scv : Memref Cert.KernelIdeal.sig Kind.scVector Space.hbm Cert.KernelIdeal.S12500x128 EltTy.f32)
local notation "rV" => (Memref.whole Cert.KernelIdeal.main_v2_scv : Memref Cert.KernelIdeal.sig Kind.scVector Space.hbm Cert.KernelIdeal.S1024 EltTy.i32)
local notation "gV" => (Memref.whole Cert.KernelIdeal.main_v6_scv : Memref Cert.KernelIdeal.sig Kind.scVector Space.hbm Cert.KernelIdeal.S1024x128 EltTy.f32)
local notation "iS" => (Memref.whole Cert.KernelIdeal.cc0_scratch0 : Memref Cert.KernelIdeal.sig Kind.scVector Space.vmem Cert.KernelIdeal.S32 EltTy.i32)
local notation "wS" => (Memref.whole Cert.KernelIdeal.cc0_scratch1 : Memref Cert.KernelIdeal.sig Kind.scVector Space.vmem Cert.KernelIdeal.S32x128 EltTy.f32)

variable (tb : (d : Dev nD) → Buf (Elt F) (tLoc d)) (rw : (d : Dev nD) → Buf (Elt F) (rLoc d)) (g₀ : (d : Dev nD) → Buf (Elt F) (gLoc d))

/-- What task `w` holds: its row numbers, its share of the table, its rows of the result at contents `g`. -/
abbrev taskPts (g : (d : Dev nD) → Buf (Elt F) (gLoc d)) (d : Dev nD) (w : Fin 32) : sProp 𝕄 :=
  iprop(listPts rw d w ∗ tabPts tb d (leaf 5 fullShare w) ∗ rowsPts d w (g d))

/-- What SparseCore `c` holds: its sixteen tasks' parts. -/
abbrev corePts (g : (d : Dev nD) → Buf (Elt F) (gLoc d)) (d : Dev nD) (c : Fin 2) : sProp 𝕄 :=
  bigSep Finset.univ fun i : Fin 16 => taskPts tb rw g d (blk c i)

/-- The call takes the row numbers, the table and the result; it brings them back, the result at the gathered rows. -/
def P : (K (F := F)).Pay (nD := nD) (Val := Elt F) (Name := ℕ) (U := UU) where
  st := fun q d c => match q with | 0 => corePts tb rw g₀ d (Fin.cast nCore_zero c)
  dn := fun q d c => match q with | 0 => corePts tb rw (gOut tb rw) d (Fin.cast nCore_zero c)
  go := fun q d c i => match q with | 0 => taskPts tb rw g₀ d (blk (Fin.cast nCore_zero c) (Fin.cast nSub_zero i))
  td := fun q d c i => match q with | 0 => taskPts tb rw (gOut tb rw) d (blk (Fin.cast nCore_zero c) (Fin.cast nSub_zero i))
  x := fun _ _ => iprop(emp)

instance P_storable : (P (F := F) tb rw g₀).IsStorable where
  st q d c := match q with
    | 0 => (inferInstance : BI.Storable (upEmb : UEmb _ 𝕄) (corePts tb rw g₀ d (Fin.cast nCore_zero c)))
  dn q d c := match q with
    | 0 => (inferInstance : BI.Storable (upEmb : UEmb _ 𝕄) (corePts tb rw (gOut tb rw) d (Fin.cast nCore_zero c)))
  go q d c i := match q with
    | 0 => (inferInstance : BI.Storable (upEmb : UEmb _ 𝕄) (taskPts tb rw g₀ d (blk (Fin.cast nCore_zero c) (Fin.cast nSub_zero i))))
  td q d c i := match q with
    | 0 => (inferInstance : BI.Storable (upEmb : UEmb _ 𝕄) (taskPts tb rw (gOut tb rw) d (blk (Fin.cast nCore_zero c) (Fin.cast nSub_zero i))))

/-- The grid's point of tile `s` of SparseCore `c`. -/
def pointV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_k (pointV c s)
          tV (Memref.isWhole_whole _) rV (Memref.isWhole_whole _) gV (Memref.isWhole_whole _)
          iS (Memref.isWhole_whole _) wS (Memref.isWhole_whole _) cc0_scratch2 cc0_scoped0 cc0_scoped1) ⟨⟩ c s := rfl

omit [FloatOps F] in
/-- A task's own waits are among those its obligation allows. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each task meets its obligation. -/
theorem tileObl (hF : (K (F := F)).Facts) (hok : RowsOK (F := F) rw) : (K (F := F)).TileObl (D (F := F)) 𝒱 (P tb rw g₀) v₀ 0 := by
  intro d c i O W hO _ _
  simp only [show (P tb rw g₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tb rw g₀ d (pointV ⟨_, hci.1⟩ ⟨_, hci.2⟩) hF hok _ O W hO).trans (wp_mono frame _ _ fun _ => waits_weaken)

/-- A SparseCore's operands are its tasks'. -/
theorem vecSplit : (K (F := F)).VecSplit' (P tb rw g₀) 0 := by
  intro d c
  show corePts tb rw g₀ d (Fin.cast nCore_zero c) ⊢ |={Set.univ}=> iprop(
      (bigSep Finset.univ fun i : Fin ((K (F := F)).nSub 0) => taskPts tb rw g₀ d (blk (Fin.cast nCore_zero c) (Fin.cast nSub_zero i)))
      ∗ ((bigSep Finset.univ fun i : Fin ((K (F := F)).nSub 0) => taskPts tb rw (gOut tb rw) d (blk (Fin.cast nCore_zero c) (Fin.cast nSub_zero i)))
          -∗ corePts tb rw (gOut tb rw) d (Fin.cast nCore_zero c)))
  iintro H; imodintro
  isplitl [H]; · iexact H
  iintro H; iexact H

/-! ## All the tasks together -/

theorem listSet_eq (w : Fin 32) : listSet w = (listPart w).set := by
  show ((View.whole (main_v2_scv : Ref sig .scVector)).slice (listPart w)).set = _
  rw [View.set_slice]; exact Finset.map_refl
theorem rowsSet_eq (w : Fin 32) : rowsSet w = (rowsPart w).set := by
  show ((View.whole (main_v6_scv : Ref sig .scVector)).slice (rowsPart w)).set = _
  rw [View.set_slice]; exact Finset.map_refl
theorem lists_disjoint : ∀ i ∈ (Finset.univ : Finset (Fin 32)), ∀ j ∈ (Finset.univ : Finset (Fin 32)), i ≠ j → Disjoint (listSet i) (listSet j) :=
  fun i _ j _ h => by rw [listSet_eq, listSet_eq]; exact Rect.part_disjoint div_list h
theorem rows_disjoint : ∀ i ∈ (Finset.univ : Finset (Fin 32)), ∀ j ∈ (Finset.univ : Finset (Fin 32)), i ≠ j → Disjoint (rowsSet i) (rowsSet j) :=
  fun i _ j _ h => by rw [rowsSet_eq, rowsSet_eq]; exact Rect.part_disjoint div_rows h
theorem lists_cover : (Finset.univ : Finset (Fin 32)).biUnion listSet = Finset.univ :=
  (Finset.biUnion_congr rfl fun i _ => listSet_eq i).trans (Rect.biUnion_part div_list)
theorem rows_cover : (Finset.univ : Finset (Fin 32)).biUnion rowsSet = Finset.univ :=
  (Finset.biUnion_congr rfl fun i _ => rowsSet_eq i).trans (Rect.biUnion_part div_rows)

/-- The two SparseCores' sixteen tiles are the 32 blocks. -/
def blkEquiv : Fin 2 × Fin 16 ≃ Fin 32 := Equiv.ofBijective (fun p => blk p.1 p.2) (by decide)

/-- The call's operands, whole, are the two SparseCores'. -/
theorem whole_split (g : (d : Dev nD) → Buf (Elt F) (gLoc d)) (d : Dev nD) :
    (bigSep Finset.univ fun c : Fin 2 => corePts tb rw g d c)
      = (iprop((rLoc d ↦{fullShare} rw d) ∗ (tLoc d ↦{fullShare} tb d) ∗ (gLoc d ↦{fullShare} g d)) : sProp 𝕄) := by
  have h1 : (rLoc d ↦{fullShare} rw d : sProp 𝕄) = bigSep Finset.univ fun w : Fin 32 => listPts rw d w := by
    unfold listPts
    rw [← pointsTo_biUnion Finset.univ (ℓ := rLoc d) listSet lists_disjoint, lists_cover]; try rfl
  have h2 : (gLoc d ↦{fullShare} g d : sProp 𝕄) = bigSep Finset.univ fun w : Fin 32 => rowsPts d w (g d) := by
    unfold rowsPts
    rw [← pointsTo_biUnion Finset.univ (ℓ := gLoc d) rowsSet rows_disjoint, rows_cover]; try rfl
  have h3 : (tLoc d ↦{fullShare} tb d : sProp 𝕄) = bigSep Finset.univ fun w : Fin 32 => tabPts tb d (leaf 5 fullShare w) :=
    pointsTo_leaves Finset.univ (tb d) 5 fullShare
  rw [h1, h2, h3, ← bigSep_sep', ← bigSep_sep', bigSep_univ_equiv blkEquiv, bigSep_univ_prod]
  rfl

end Cert.Lse

end
-- ==== Proof.Region.lean ====
/-
  A TensorCore call of the program as a region of its thread: entered from every unscoped buffer at a valuation, the
  thread owing nothing, and left at the valuation its write-backs make.
-/
module

public import proofs.«01_k».proof.Proof.Setup
public import proofs.«01_k».proof.Proof.Gen.KernelIdeal.Launch
public import proofs.«01_k».proof.Proof.Gen.KernelIdeal.Points
public import Idealize.ShloMosaic.Lib.Pipeline.RegionsLoop

@[expose] public section

noncomputable section

namespace Cert.Lse

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

/-- The TensorCore's unscoped buffers. -/
def ucRefs : Finset (DevRef τ sig) := (StableHlo.tcRefs τ sig).filter fun b => ¬ b.isScoped

omit [FloatOps F] in
/-- They are held at a valuation exactly when the launch's unscoped buffers are at it. -/
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-- The waits a TensorCore may have recorded once the SparseCore call is over. -/
def waitsAfter (c : Dev nD) : Set (SemLoc sig × HIx 1) := {p | (K (F := F)).lev ((c : Thread nD τ), p.1) p.2 ≤ 8}

/-- The thread owes nothing, its recorded waits among those. -/
abbrev owesNone (c : Dev nD) : sProp 𝕄 :=
  iprop(∃ W : Waits sig (HIx 1), ⌜(W : Set (SemLoc sig × HIx 1)) ⊆ waitsAfter (F := F) c⌝ ∗ owes (c : Thread nD τ) (0 : CellTallies nD τ sig (HIx 1)) W)

/-- Proof data of a call another region's family does not run: anything. -/
def junkDat [∀ e, Nonempty (Elt F e)] {cfg : Pipeline.Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

/-- The prefetched tables' contents: there are none. -/
abbrev adm : (p : Fin 2) → (pcfgs (F := F) p).Adm := fun p => (cfgs p).toPCfg_adm

/-- The proof data of one pipeline on every core, among anything for the other. -/
abbrev Dats : Type _ := (p : Fin 2) → (c : Dev nD) → Dat τ (Elt F) (HIx 1) ℕ UU ℕ (Pipeline.pin (pcfgs (F := F)) adm p) c

set_option backward.isDefEq.respectTransparency.types false in
/-- A TensorCore call as a region of the thread: its windows' arrays taken out of the unscoped buffers at `V`, and put
    back at `V'`, which has each array at what the write-backs leave and every other buffer as it was. -/
def region (p : Fin 2) (kit : Pipeline.LaunchFacts (nD := nD) (τ := τ) cfgs p) (pdats : Dats (F := F)) (V V' : Dev nD → Valuation τ sig (Elt F))
    (howed : ∀ c t, (pdats p c).owed t = 0) (hrec : ∀ c t, (pdats p c).recorded t = waitsAfter (F := F) c)
    (hq : ∀ c w, (pdats p c).q w = fullShare) (hA : ∀ c w, (pdats p c).A w = V c (Pipeline.arrRef (cfgs p).spec w))
    (hbody : ∀ c, Pipeline.BodyObligationLoose (pdats p c) (defs₀ (F := F)) 𝒱₀ none Set.univ)
    (hin : ∀ c, (Pipeline.scopedRest (cfgs p).spec c : sProp 𝕄) ⊢ (pdats p c).Φ 0)
    (hout : ∀ c, (pdats p c).Φ (Fin.last _) ⊢ (Pipeline.scopedRest (cfgs p).spec c : sProp 𝕄))
    (hF : ∀ c w, (pdats p c).arrAt w (cfgs p).N = V' c (Pipeline.arrRef (cfgs p).spec w))
    (hrest : ∀ c (b : Ref sig .tc), b ∉ Finset.univ.image (Pipeline.arrRef (cfgs p).spec) → V' c b = V c b) :
    Pipeline.RegionSeg (pcfgs (F := F)) adm pdats none defs₀ 𝒱₀ (K (F := F)).L (K (F := F)).lev p where
  win := kit.win.to₀
  block_pos := kit.block_pos
  stage_whole := kit.stage_whole
  K := PEmpty
  osem k := k.elim
  ho := Pipeline.OwnSemFacts.none _
  hbody := hbody
  hwaits := Pipeline.hwaits_of_owed_zero _ _ _ _ (K (F := F)).L (K (F := F)).lev p howed
  pre c := iprop(StableHlo.held (c : Thread nD τ) ucRefs (V c) ∗ owesNone (F := F) c)
  post c := iprop(StableHlo.held (c : Thread nD τ) ucRefs (V' c) ∗ owesNone (F := F) c)
  X _ := BI.emp
  Y _ := BI.emp
  Z c := Pipeline.unscopedRest (Ix := HIx 1) (Name := ℕ) (U := UU) (Lvl := ℕ) (cfgs p).spec c (fun b => V c b)
  hentry c := by
    have hsplit := Pipeline.arrays_of_unscopedBufs (p := p) (pcfgs (F := F)) adm pdats kit.win kit.arr_whole c
      ((pdats p c).share_full (hq c)) (fun b => V c b) (hA c)
    rw [Pipeline.ownSems0_none, ← unscopedBufs_held]
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed, hrec]
      icases HO with ⟨%W, %hW, HO⟩; iexists W; isplitr; · ipureintro; exact fun _ h => Or.inl (hW h)
      iexact HO
    isplitr; · iempintro
    iexact Hrest
  hin c := by
    refine BIBase.Entails.trans ?_ (hin c)
    iintro ⟨-, -, Hr⟩; iexact Hr
  hout c := by
    refine (hout c).trans ?_
    rw [Pipeline.ownSems0_none]
    iintro Hr
    isplitr; · iempintro
    isplitr; · iempintro
    iexact Hr
  hexit c := by
    have hjoin := Pipeline.unscopedBufs_of_arrays (p := p) (pcfgs (F := F)) adm (Ix := HIx 1) (Name := ℕ) (U := UU) (Lvl := ℕ) kit.win kit.arr_whole c
      pdats ((pdats p c).share_full (hq c)) (fun b => V c b) (fun b => V' c b) ((pdats p c).arrAt · (cfgs p).N) (hF c) (hrest c)
    rw [← unscopedBufs_held]
    iintro ⟨Ha, HO, -, Hrest⟩
    imodintro
    isplitl [Ha Hrest]
    · iapply hjoin; isplitl [Ha] <;> iassumption
    unfold Pipeline.Dat.owesAt Pipeline.owesWithin Pipeline.Dat.bound
    rw [howed, hrec]
    icases HO with ⟨%W, %hW, HO⟩; iexists W; isplitr
    · ipureintro
      intro x hx
      rcases hW hx with h | h
      · exact h
      · rcases h with ⟨_, _, rfl⟩
        exact Nat.zero_le _
    iexact HO

end Cert.Lse

end
-- ==== Proof.OutBody.lean ====
/-
  One block of the second TensorCore call: the block of the scores written is the product of the two staged blocks.
-/
module

public import proofs.«01_k».proof.Proof.Region
public import proofs.«01_k».proof.Proof.Gen.KernelIdeal.Skeleton
public import Idealize.ShloMosaic.Lib.Tactic
public import Idealize.ShloMosaic.Lib.Pipeline.FrameBody
public import Idealize.ShloMosaic.Lib.Pipeline.TableIdle
public import Idealize.ShloMosaic.Lib.VecWindow
public import Idealize.ShloMosaic.Lib.Pipeline.Value

@[expose] public section

noncomputable section

namespace Cert.Lse

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig (HIx 1) (Elt F) ℕ UU ℕ

/-- The second call's body: from the two input blocks it leaves their product, whatever the output block held. -/
theorem out_body (c : Dev nD) (i : grid2.Coords) (M1 : Memref sig .tc .vmem S1024x24 .f32) (h1 : M1.IsWhole) (M2 : Memref sig .tc .vmem S24x2048 .f32)
    (h2 : M2.IsWhole) (M3 : Memref sig .tc .vmem S1024x2048 .f32) (h3 : M3.IsWhole) (X1 : Vec F S1024x24 .f32) (X2 : Vec F S24x2048 .f32)
    (X3 : Vec F S1024x2048 .f32) (E : Set ℕ) (Q : PUnit → sProp 𝕄) :
    iprop(owns (c : Thread nD τ) M1 fullShare X1 ∗ owns (c : Thread nD τ) M2 fullShare X2 ∗ owns (c : Thread nD τ) M3 fullShare X3
        ∗ (iprop(owns (c : Thread nD τ) M1 fullShare X1 ∗ owns (c : Thread nD τ) M2 fullShare X2 ∗ owns (c : Thread nD τ) M3 fullShare (k2_pay1 X1 X2)) -∗ Q ⟨⟩))
      ⊢ wp frame (wpE (defs₀ (F := F)) 𝒱₀ (c : Thread nD τ) none) E (cc2__out_body i M1 h1 M2 h2 M3 h3) Q := by
  rw [owns_eq_rep, owns_eq_rep, owns_eq_rep, cc2__out_body_eq_skeleton]
  unfold cc2__out_body_skel
  iintro ⟨H1, H2, H3, Hk⟩
  sl_exec!
  sl_step
  iapply Hk
  isplitl [H1]; · iexact H1
  isplitl [H2]; · iexact H2
  unfold owns
  iexists _
  isplitr; swap; (· iexact H3)
  ipureintro
  rw [View.read_writes_junk_eq_canon]
  unfold out_body.sl.H3_1
  rw [View.readAt_rep_full, View.readAt_rep_full]
  exact View.canon_unit_zero (funext fun a => by fin_cases a <;> rfl) _ _

end Cert.Lse

end
-- ==== Proof.LseBody.lean ====
/-
  One point of the first TensorCore call. At the first it lays out the embeddings' array and clears the running sums;
  at each it adds the exponentials of its 4096 scores, lane by lane, to the running sums; at the last it leaves the
  embeddings' array with the logarithm of the total taken off the column of shifts.
-/
module

public import proofs.«01_k».proof.Proof.OutBody

@[expose] public section

noncomputable section

namespace Cert.Lse

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig (HIx 1) (Elt F) ℕ UU ℕ

/-- The embeddings taken out of the gathered rows `x` by the lane-group words `s`. -/
def embCols (x : Vec F S1024x128 .f32) (s : Vec F S1024x1 .i32) : FVec F S1024x16 .f32 :=
  k1_pay7 (k1_pay3 x) (k1_pay4 s) (k1_pay5 x s) 7#32

/-- The negated shift of each row, from the weights' array `w`. -/
def negShift (x : Vec F S1024x128 .f32) (s : Vec F S1024x1 .i32) (w : Vec F S24x102400 .f32) : FVec F S1024x1 .f32 :=
  k1_pay10 (k1_pay9 (k1_pay3 x) (k1_pay4 s) (k1_pay5 x s) 7#32
    (View.ld w (Rect.unit (s := S24x102400) ![0, 0] S16x102400.size inb_S24x102400_S16x102400_0_0))
    (View.ld w (Rect.unit (s := S24x102400) ![16, 0] S1x100000.size inb_S24x102400_S1x100000_16_0)))

/-- The embeddings' array: the embeddings, a column of ones, the negated shifts, zeros. -/
def embs (x : Vec F S1024x128 .f32) (s : Vec F S1024x1 .i32) (w : Vec F S24x102400 .f32) : Vec F S1024x24 .f32 :=
  View.canon [⟨Rect.unit (s := S1024x24) ![0, 18] S1024x6.size inb_S1024x24_S1024x6_0_18, k1_pay11⟩,
    ⟨Rect.unit (s := S1024x24) ![0, 17] S1024x1.size inb_S1024x24_S1024x1_0_17, negShift x s w⟩,
    ⟨Rect.unit (s := S1024x24) ![0, 16] S1024x1.size inb_S1024x24_S1024x1_0_16, k1_pay8⟩,
    ⟨Rect.unit (s := S1024x24) ![0, 0] S1024x16.size inb_S1024x24_S1024x16_0_0, embCols x s⟩]

/-- The running sums after point `i`: from `a`, with the exponentials of the point's scores added. -/
def accStep (i : grid1.Coords) (e : Vec F S1024x24 .f32) (w : Vec F S24x102400 .f32) (a : Vec F S1024x128 .f32) : Vec F S1024x128 .f32 :=
  k1_pay1 (k1_pay13 e (View.ld w (Rect.unit (s := S24x102400) (k1_off1 i) S24x4096.size (k1_off1_inb i))))
    (k1_pay14 e (View.ld w (Rect.unit (s := S24x102400) (k1_off1 i) S24x4096.size (k1_off1_inb i))) a)

/-- The embeddings' array with the logarithm of the total taken off the column of shifts. -/
def embs2 (e : Vec F S1024x24 .f32) (a : Vec F S1024x128 .f32) : Vec F S1024x24 .f32 :=
  View.canon [⟨Rect.unit (s := S1024x24) ![0, 17] S1024x1.size inb_S1024x24_S1024x1_0_17,
      k1_pay2 a (View.ld e (Rect.unit (s := S1024x24) ![0, 17] S1024x1.size inb_S1024x24_S1024x1_0_17))⟩,
    ⟨Rect.unit (s := S1024x24) ![0, 0] S1024x24.size inb_S1024x24_S1024x24_0_0, e⟩]

/-- Whether a point is the first, as the body asks it. -/
def cond1 (i : grid1.Coords) : BitVec 1 :=
  Scalar.cmpi .ne (Scalar.extui (Scalar.cmpi .eq (BitVec.ofNat 32 (i 0).val) 0#32) : BitVec 32) 0#32

/-- A buffer of which a run's writes are known is owned at what the writes leave. -/
theorem owns_of_writes (c : Dev nD) {S : Shape} {e : EltTy} (M : Memref sig .tc .vmem S e) (L : List (View.Piece (Elt F) S e)) (X : S.Idx → Elt F e)
    (h : View.canon L = X) :
    (M.view.loc (c : Thread nD τ) ↦[M.view.set]{fullShare} M.view.writes (Elt F) M.view.junk L) ⊢ (owns (c : Thread nD τ) M fullShare X : sProp 𝕄) := by
  unfold owns
  iintro H
  iexists _
  isplitr; swap; (· iexact H)
  ipureintro
  rw [View.read_writes_junk_eq_canon, h]

/-- A write of the whole of a shape, last, leaves its own contents. -/
theorem canon_whole {S : Shape} {e : EltTy} {off : Fin S.rank → ℕ} (h : ∀ a, off a = 0) (inb : ∀ a, off a + S.size a ≤ S.size a) (x : S.Idx → Elt F e)
    (L : List (View.Piece (Elt F) S e)) : View.canon (⟨Rect.unit off S.size inb, x⟩ :: L) = x := by
  funext y
  refine (congrArg _ (funext fun a => Fin.ext ?_)).trans (View.canon_cons_emb (Rect.unit off S.size inb) x L y)
  show (y a).val = off a + 1 * (y a).val
  rw [h]; omega

/-- A read of the whole of a shape after writes reads what they leave. -/
theorem readCov_whole {S : Shape} {sp : Space} {e : EltTy} (v : View sig .tc sp S e) (L : List (View.Piece (Elt F) S e)) {off : Fin S.rank → ℕ}
    (h : ∀ a, off a = 0) (inb : ∀ a, off a + S.size a ≤ S.size a) :
    v.readCov L (Rect.unit off S.size inb).toLoadRect = View.canon L := by
  rw [View.readCov_eq_canon']
  exact funext fun y => congrArg (View.canon L) (funext fun a => Fin.ext (by show off a + 1 * (y a).val = (y a).val; rw [h]; omega))

section Body

variable (c : Dev nD) (i : grid1.Coords) (M1 : Memref sig .tc .vmem S1024x128 .f32) (h1 : M1.IsWhole) (M2 : Memref sig .tc .vmem S1024x1 .i32) (h2 : M2.IsWhole)
  (M3 : Memref sig .tc .vmem S24x102400 .f32) (h3 : M3.IsWhole) (M4 : Memref sig .tc .vmem S1024x24 .f32) (h4 : M4.IsWhole)
  (M5 : Memref sig .tc .vmem S1024x24 .f32) (h5 : M5.IsWhole) (M6 : Memref sig .tc .vmem S1024x128 .f32) (h6 : M6.IsWhole)
  (X1 : Vec F S1024x128 .f32) (X2 : Vec F S1024x1 .i32) (X3 : Vec F S24x102400 .f32) (X4 X5 : Vec F S1024x24 .f32) (X6 : Vec F S1024x128 .f32)

/-- The six buffers of the body, at the contents given. -/
abbrev six (x1 : Vec F S1024x128 .f32) (x2 : Vec F S1024x1 .i32) (x3 : Vec F S24x102400 .f32) (x4 x5 : Vec F S1024x24 .f32) (x6 : Vec F S1024x128 .f32) : sProp 𝕄 :=
  iprop(owns (c : Thread nD τ) M1 fullShare x1 ∗ owns (c : Thread nD τ) M2 fullShare x2 ∗ owns (c : Thread nD τ) M3 fullShare x3
    ∗ owns (c : Thread nD τ) M4 fullShare x4 ∗ owns (c : Thread nD τ) M5 fullShare x5 ∗ owns (c : Thread nD τ) M6 fullShare x6)

/-- A point that is neither the first nor the last: the running sums take its exponentials. -/
theorem lse_body_mid (hc1 : ¬ cond1 i = 1#1) (hc2 : ¬ k1_cond2 i = 1#1) (E : Set ℕ) (Q : PUnit → sProp 𝕄) :
    iprop(six c M1 M2 M3 M4 M5 M6 X1 X2 X3 X4 X5 X6 ∗ (six c M1 M2 M3 M4 M5 M6 X1 X2 X3 X4 X5 (accStep i X5 X3 X6) -∗ Q ⟨⟩))
      ⊢ wp frame (wpE (defs₀ (F := F)) 𝒱₀ (c : Thread nD τ) none) E (cc1__lse_body i M1 h1 M2 h2 M3 h3 M4 h4 M5 h5 M6 h6) Q := by
  unfold six
  rw [owns_eq_rep, owns_eq_rep, owns_eq_rep, owns_eq_rep, owns_eq_rep, owns_eq_rep, cc1__lse_body_eq_skeleton]
  unfold cc1__lse_body_skel
  rw [k1_part3_eq_skeleton]
  unfold k1_part3_skel
  unfold cond1 at hc1
  simp only [dif_neg hc1, dif_neg hc2]
  iintro ⟨⟨H1, H2, H3, H4, H5, H6⟩, Hk⟩
  sl_exec!
  sl_step
  iapply Hk
  isplitl [H1]; · iexact H1
  isplitl [H2]; · iexact H2
  isplitl [H3]; · iexact H3
  isplitl [H4]; · iexact H4
  isplitl [H5]; · iexact H5
  iapply (owns_of_writes c M6 _ _ _)
  swap; (· iexact H6)
  unfold lse_body_mid.sl.H6_1
  rw [View.readAt_rep_full, View.readAt_rep_full, View.readAt_rep]
  exact canon_whole (fun a => by fin_cases a <;> rfl) _ _ _

/-- The first point: the embeddings' array is laid out, and the running sums start from nothing. -/
theorem lse_body_first (hc1 : cond1 i = 1#1) (hc2 : ¬ k1_cond2 i = 1#1) (E : Set ℕ) (Q : PUnit → sProp 𝕄) :
    iprop(six c M1 M2 M3 M4 M5 M6 X1 X2 X3 X4 X5 X6 ∗ (six c M1 M2 M3 M4 M5 M6 X1 X2 X3 X4 (embs X1 X2 X3) (accStep i (embs X1 X2 X3) X3 k1_pay12) -∗ Q ⟨⟩))
      ⊢ wp frame (wpE (defs₀ (F := F)) 𝒱₀ (c : Thread nD τ) none) E (cc1__lse_body i M1 h1 M2 h2 M3 h3 M4 h4 M5 h5 M6 h6) Q := by
  unfold six
  rw [owns_eq_rep, owns_eq_rep, owns_eq_rep, owns_eq_rep, owns_eq_rep, owns_eq_rep, cc1__lse_body_eq_skeleton]
  unfold cc1__lse_body_skel
  rw [k1_part3_eq_skeleton]
  unfold k1_part3_skel
  unfold cond1 at hc1
  simp only [dif_pos hc1, dif_neg hc2, k1_part1_eq_skeleton, k1_part2_eq_skeleton]
  unfold k1_part1_skel k1_part2_skel
  iintro ⟨⟨H1, H2, H3, H4, H5, H6⟩, Hk⟩
  sl_exec!
  sl_step
  iapply Hk
  isplitl [H1]; · iexact H1
  isplitl [H2]; · iexact H2
  isplitl [H3]; · iexact H3
  isplitl [H4]; · iexact H4
  have hE : View.canon (lse_body_first.sl.H5_4 M1 M2 M3 M5 X1 X2 X3 X5) = embs X1 X2 X3 := by
    unfold lse_body_first.sl.H5_4
    dsimp only
    rw [View.readAt_rep_full, View.readAt_rep_full, View.readAt_rep, View.readAt_rep]
    rfl
  have hv3 : lse_body_first.sl.v3 M1 M2 M3 M5 X1 X2 X3 X5 = embs X1 X2 X3 := by
    unfold lse_body_first.sl.v3
    exact (readCov_whole M5.view _ (fun a => by fin_cases a <;> rfl) _).trans hE
  have hv10 : lse_body_first.sl.v10 (F := F) M6 = k1_pay12 := by
    unfold lse_body_first.sl.v10
    refine (readCov_whole M6.view _ (fun a => by fin_cases a <;> rfl) _).trans ?_
    unfold lse_body_first.sl.H6_1
    exact canon_whole (fun a => by fin_cases a <;> rfl) _ _ _
  isplitl [H5]
  · iapply (owns_of_writes c M5 _ _ _)
    swap; (· iexact H5)
    exact hE
  · iapply (owns_of_writes c M6 _ _ _)
    swap; (· iexact H6)
    unfold lse_body_first.sl.H6_2
    dsimp only
    rw [hv3, hv10, View.readAt_rep]
    exact canon_whole (fun a => by fin_cases a <;> rfl) _ _ _

/-- The last point: the running sums take its exponentials, and the output block is left. -/
theorem lse_body_last (hc1 : ¬ cond1 i = 1#1) (hc2 : k1_cond2 i = 1#1) (E : Set ℕ) (Q : PUnit → sProp 𝕄) :
    iprop(six c M1 M2 M3 M4 M5 M6 X1 X2 X3 X4 X5 X6 ∗ (six c M1 M2 M3 M4 M5 M6 X1 X2 X3 (embs2 X5 (accStep i X5 X3 X6)) X5 (accStep i X5 X3 X6) -∗ Q ⟨⟩))
      ⊢ wp frame (wpE (defs₀ (F := F)) 𝒱₀ (c : Thread nD τ) none) E (cc1__lse_body i M1 h1 M2 h2 M3 h3 M4 h4 M5 h5 M6 h6) Q := by
  unfold six
  rw [owns_eq_rep, owns_eq_rep, owns_eq_rep, owns_eq_rep, owns_eq_rep, owns_eq_rep, cc1__lse_body_eq_skeleton]
  unfold cc1__lse_body_skel
  rw [k1_part3_eq_skeleton]
  unfold k1_part3_skel
  unfold cond1 at hc1
  simp only [dif_neg hc1, dif_pos hc2]
  iintro ⟨⟨H1, H2, H3, H4, H5, H6⟩, Hk⟩
  sl_exec!
  sl_step
  iapply Hk
  isplitl [H1]; · iexact H1
  isplitl [H2]; · iexact H2
  isplitl [H3]; · iexact H3
  have hv81 : lse_body_last.sl.v81 i M3 M5 M6 X3 X5 X6 = accStep i X5 X3 X6 := by
    unfold lse_body_last.sl.v81
    refine (readCov_whole M6.view _ (fun a => by fin_cases a <;> rfl) _).trans ?_
    unfold lse_body_last.sl.H6_1
    rw [View.readAt_rep_full, View.readAt_rep_full, View.readAt_rep]
    exact canon_whole (fun a => by fin_cases a <;> rfl) _ _ _
  isplitl [H4]
  · iapply (owns_of_writes c M4 _ _ _)
    swap; (· iexact H4)
    unfold lse_body_last.sl.H4_2
    rw [hv81, View.readAt_rep_full, View.readAt_rep]
    rfl
  isplitl [H5]; · iexact H5
  iapply (owns_of_writes c M6 _ _ _)
  swap; (· iexact H6)
  unfold lse_body_last.sl.H6_1
  rw [View.readAt_rep_full, View.readAt_rep_full, View.readAt_rep]
  exact canon_whole (fun a => by fin_cases a <;> rfl) _ _ _

end Body

end Cert.Lse

end
-- ==== Proof.Lse.lean ====
/-
  The first TensorCore call: from the gathered rows, the lane groups and the weights it leaves the embeddings' array
  with each row's shift and the logarithm of its total in their column.
-/
module

public import proofs.«01_k».proof.Proof.LseBody

@[expose] public section

noncomputable section

namespace Cert.Lse

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig (HIx 1) (Elt F) ℕ UU ℕ

/-- The first point. -/
def t₀ : Fin cfg1.N := ⟨0, by decide⟩

/-- The body takes a point for the first exactly when it is. -/
theorem cond1_iff : ∀ t : Fin cfg1.N, cond1 (grid1.coords t) = 1#1 ↔ t.val = 0 := by decide +kernel
/-- The body takes a point for the last exactly when it is. -/
theorem cond2_iff : ∀ t : Fin cfg1.N, k1_cond2 (grid1.coords t) = 1#1 ↔ t.val = 24 := by decide +kernel

section Running

variable (e : Vec F S1024x24 .f32) (w : Vec F S24x102400 .f32)

/-- The running sums before point `n`. -/
def acc : ℕ → Vec F S1024x128 .f32
  | 0 => k1_pay12
  | n + 1 => if h : n < cfg1.N then accStep (grid1.coords ⟨n, h⟩) e w (acc n) else acc n

/-- One point more. -/
theorem acc_succ (t : Fin cfg1.N) : acc e w (t.val + 1) = accStep (grid1.coords t) e w (acc e w t.val) := by
  rw [acc, dif_pos t.isLt]

/-- Before the first. -/
theorem acc_zero : acc e w 0 = k1_pay12 := rfl

end Running

attribute [irreducible] acc

variable (V : Dev nD → Valuation τ sig (Elt F))

/-- The gathered rows, as staged. -/
def rowsBlk (c : Dev nD) : Vec F S1024x128 .f32 := ((cfg1.win 0).blk t₀).view.read (Elt F) (V c main_v6)
/-- The lane groups, as staged. -/
def groupBlk (c : Dev nD) : Vec F S1024x1 .i32 := ((cfg1.win 1).blk t₀).view.read (Elt F) (V c main_v5)
/-- The weights, as staged. -/
def weightsBlk (c : Dev nD) : Vec F S24x102400 .f32 := ((cfg1.win 2).blk t₀).view.read (Elt F) (V c main_v18)

/-- The embeddings' array the first point lays out. -/
def embArr (c : Dev nD) : Vec F S1024x24 .f32 := embs (rowsBlk V c) (groupBlk V c) (weightsBlk V c)
/-- The running sums before point `n`. -/
def accArr (c : Dev nD) (n : ℕ) : Vec F S1024x128 .f32 := acc (embArr V c) (weightsBlk V c) n

/-- One point more. -/
theorem accArr_succ (c : Dev nD) (t : Fin cfg1.N) :
    accArr V c (t.val + 1) = accStep (grid1.coords t) (embArr V c) (weightsBlk V c) (accArr V c t.val) := acc_succ _ _ t
/-- The sums before the first point. -/
theorem accArr_zero (c : Dev nD) : accArr V c 0 = k1_pay12 := acc_zero _ _

/-- What the last point leaves in the output's block. -/
def finBlk (c : Dev nD) : Vec F S1024x24 .f32 := embs2 (embArr V c) (accArr V c 25)

/-- The scoped buffers the first call neither stages in nor uses. -/
def others (c : Dev nD) : sProp 𝕄 :=
  iprop((∃ f : Buf (Elt F) ((c : Thread nD τ).loc cc2_stg0_0), ((c : Thread nD τ).loc cc2_stg0_0) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f))

/-- Before point `n`: the scratch holds the embeddings' array and the running sums, once the first point has run. -/
def lsePhi (c : Dev nD) (n : ℕ) : sProp 𝕄 :=
  iprop(∃ (e : Vec F S1024x24 .f32) (a : Vec F S1024x128 .f32), ⌜n ≠ 0 → e = embArr V c ∧ a = accArr V c n⌝
    ∗ owns (c : Thread nD τ) (Memref.whole cc1_scratch0) fullShare e ∗ owns (c : Thread nD τ) (Memref.whole cc1_scratch1) fullShare a ∗ others (F := F) c)

/-- The first call's proof data, entered from `V`. -/
def lseDat (c : Dev nD) : Dat τ (Elt F) (HIx 1) ℕ UU ℕ cfg1 c where
  A w := V c (Pipeline.arrRef spec1 w)
  after w _ := match w with
    | ⟨0, _⟩ => rowsBlk V c
    | ⟨1, _⟩ => groupBlk V c
    | ⟨2, _⟩ => weightsBlk V c
    | ⟨3, _⟩ => finBlk V c
  Φ t := lsePhi V c t.val
  q _ := fullShare
  owed _ := 0
  recorded _ := waitsAfter (F := F) c

/-- The body finds the gathered rows staged, -/
theorem lse_before_0 (c : Dev nD) (t : Fin cfg1.N) (d : (cfg1.win 0).block.Idx → Elt F (cfg1.win 0).elt) : (lseDat V c).before 0 t d = rowsBlk V c :=
  (lseDat V c).before_in_eq_fetched 0 rfl (fun _ => rfl) (fun _ _ _ => rfl) (fun _ => rfl) t d
/-- and the lane groups, -/
theorem lse_before_1 (c : Dev nD) (t : Fin cfg1.N) (d : (cfg1.win 1).block.Idx → Elt F (cfg1.win 1).elt) : (lseDat V c).before 1 t d = groupBlk V c :=
  (lseDat V c).before_in_eq_fetched 1 rfl (fun _ => rfl) (fun _ _ _ => rfl) (fun _ => rfl) t d
/-- and the weights. -/
theorem lse_before_2 (c : Dev nD) (t : Fin cfg1.N) (d : (cfg1.win 2).block.Idx → Elt F (cfg1.win 2).elt) : (lseDat V c).before 2 t d = weightsBlk V c :=
  (lseDat V c).before_in_eq_fetched 2 rfl (fun _ => rfl) (fun _ _ _ => rfl) (fun _ => rfl) t d

/-- What the output's block is left at. -/
theorem lse_after_3 (c : Dev nD) (t : Fin cfg1.N) : (lseDat V c).after 3 t = finBlk V c := by
  dsimp only [lseDat]

/-- The output's block is left alone at every point but the last. -/
theorem idle_iff (t : Fin cfg1.N) : cfg1.idle 3 (grid1.coords t) = true ↔ t.val ≠ 24 := by
  show (!(k1_cond2 (grid1.coords t) == 1#1)) = true ↔ _
  rw [Bool.not_eq_true', beq_eq_false_iff_ne, ne_eq, cond2_iff]

/-- The body at every point leaves what the proof data names. -/
theorem lse_obligation (c : Dev nD) : BodyObligation (lseDat V c) (defs₀ (F := F)) 𝒱₀ none Set.univ := fun t => by
  rw [bigSep_W1, bigSep_W1]
  rw [show (lseDat V c).Φ t.castSucc = lsePhi V c t.val from rfl, show (lseDat V c).Φ t.succ = lsePhi V c (t.val + 1) from rfl,
    show (lseDat V c).owesAt none t.succ = (lseDat V c).owesAt none t.castSucc from rfl]
  unfold lsePhi
  have hN : t.val < 25 := t.isLt
  by_cases h24 : t.val = 24
  · have hi : cfg1.idle 3 (grid1.coords t) = false := by
      rw [← Bool.not_eq_true, idle_iff]; exact fun h => h h24
    iintro ⟨⟨%e, %a, %hea, H5, H6, Hr⟩, Howes, ⟨%d0, H0⟩, ⟨%d1, H1⟩, ⟨%d2, H2⟩, ⟨%d3, H3⟩⟩
    rw [lse_before_0, lse_before_1, lse_before_2]
    obtain ⟨rfl, rfl⟩ := hea (by omega)
    iapply (lse_body_last c (grid1.coords t) _ (hstage1_0 ((cfg1.slots t 0).cast nbuf1_0)) _ (hstage1_1 ((cfg1.slots t 1).cast nbuf1_1)) _
      (hstage1_2 ((cfg1.slots t 2).cast nbuf1_2)) _ (hstage1_3 ((cfg1.slots t 3).cast nbuf1_3)) _ (Memref.isWhole_whole _) _ (Memref.isWhole_whole _)
      (rowsBlk V c) (groupBlk V c) (weightsBlk V c) _ _ _ (fun h => by rw [cond1_iff] at h; omega) ((cond2_iff t).mpr h24) Set.univ _)
    isplitl [H0 H1 H2 H3 H5 H6]
    · isplitl [H0]; · iexact H0
      isplitl [H1]; · iexact H1
      isplitl [H2]; · iexact H2
      isplitl [H3]; · iexact H3
      isplitl [H5]; · iexact H5
      iexact H6
    iintro ⟨H0, H1, H2, H3, H5, H6⟩
    isplitl [H5 H6 Hr]
    · iexists _, _
      isplitr
      swap
      · isplitl [H5]; · iexact H5
        isplitl [H6]; · iexact H6
        iexact Hr
      ipureintro
      exact fun _ => ⟨rfl, (accArr_succ V c t).symm⟩
    isplitl [Howes]; · iexact Howes
    isplitl [H0]; · iexact H0
    isplitl [H1]; · iexact H1
    isplitl [H2]; · iexact H2
    rw [hi]
    rw [lse_after_3, finBlk, show (25 : ℕ) = t.val + 1 by omega, accArr_succ]
    iexact H3
  · have hi : cfg1.idle 3 (grid1.coords t) = true := (idle_iff t).mpr h24
    have hf : (cfg1.win 3).flush t = false := by
      rw [← Bool.not_eq_true, flush1_3]; omega
    iintro ⟨⟨%e, %a, %hea, H5, H6, Hr⟩, Howes, ⟨%d0, H0⟩, ⟨%d1, H1⟩, ⟨%d2, H2⟩, ⟨%d3, H3⟩⟩
    rw [lse_before_0, lse_before_1, lse_before_2, hi, hf]
    by_cases h0 : t.val = 0
    · iapply (lse_body_first c (grid1.coords t) _ (hstage1_0 ((cfg1.slots t 0).cast nbuf1_0)) _ (hstage1_1 ((cfg1.slots t 1).cast nbuf1_1)) _
        (hstage1_2 ((cfg1.slots t 2).cast nbuf1_2)) _ (hstage1_3 ((cfg1.slots t 3).cast nbuf1_3)) _ (Memref.isWhole_whole _) _ (Memref.isWhole_whole _)
        (rowsBlk V c) (groupBlk V c) (weightsBlk V c) _ _ _ ((cond1_iff t).mpr h0) (fun h => h24 ((cond2_iff t).mp h)) Set.univ _)
      isplitl [H0 H1 H2 H3 H5 H6]
      · isplitl [H0]; · iexact H0
        isplitl [H1]; · iexact H1
        isplitl [H2]; · iexact H2
        isplitl [H3]; · iexact H3
        isplitl [H5]; · iexact H5
        iexact H6
      iintro ⟨H0, H1, H2, H3, H5, H6⟩
      isplitl [H5 H6 Hr]
      · iexists _, _
        isplitr
        swap
        · isplitl [H5]; · iexact H5
          isplitl [H6]; · iexact H6
          iexact Hr
        ipureintro
        refine fun _ => ⟨rfl, ?_⟩
        rw [accArr_succ, h0, accArr_zero]; rfl
      isplitl [Howes]; · iexact Howes
      isplitl [H0]; · iexact H0
      isplitl [H1]; · iexact H1
      isplitl [H2]; · iexact H2
      iexists d3; iexact H3
    · obtain ⟨rfl, rfl⟩ := hea h0
      iapply (lse_body_mid c (grid1.coords t) _ (hstage1_0 ((cfg1.slots t 0).cast nbuf1_0)) _ (hstage1_1 ((cfg1.slots t 1).cast nbuf1_1)) _
        (hstage1_2 ((cfg1.slots t 2).cast nbuf1_2)) _ (hstage1_3 ((cfg1.slots t 3).cast nbuf1_3)) _ (Memref.isWhole_whole _) _ (Memref.isWhole_whole _)
        (rowsBlk V c) (groupBlk V c) (weightsBlk V c) _ _ _ (fun h => h0 ((cond1_iff t).mp h)) (fun h => h24 ((cond2_iff t).mp h)) Set.univ _)
      isplitl [H0 H1 H2 H3 H5 H6]
      · isplitl [H0]; · iexact H0
        isplitl [H1]; · iexact H1
        isplitl [H2]; · iexact H2
        isplitl [H3]; · iexact H3
        isplitl [H5]; · iexact H5
        iexact H6
      iintro ⟨H0, H1, H2, H3, H5, H6⟩
      isplitl [H5 H6 Hr]
      · iexists _, _
        isplitr
        swap
        · isplitl [H5]; · iexact H5
          isplitl [H6]; · iexact H6
          iexact Hr
        ipureintro
        exact fun _ => ⟨rfl, (accArr_succ V c t).symm⟩
      isplitl [Howes]; · iexact Howes
      isplitl [H0]; · iexact H0
      isplitl [H1]; · iexact H1
      isplitl [H2]; · iexact H2
      iexists d3; iexact H3

/-- What enters: the scratch at anything. -/
theorem lse_in (c : Dev nD) : (Pipeline.scopedRest spec1 c : sProp 𝕄) ⊢ lsePhi V c 0 := by
  rw [scopedRest1_eq]
  unfold lsePhi others
  simp only [owns_whole_eq]
  iintro ⟨⟨%e, H5⟩, ⟨%a, H6⟩, Hr⟩
  iexists e, a
  isplitr; · ipureintro; exact fun h => absurd rfl h
  isplitl [H5]; · iexists e; isplitr; · ipureintro; rfl
                  iexact H5
  isplitl [H6]; · iexists a; isplitr; · ipureintro; rfl
                  iexact H6
  iexact Hr

/-- What leaves: the scratch at what it holds. -/
theorem lse_out (c : Dev nD) (n : ℕ) : lsePhi V c n ⊢ (Pipeline.scopedRest spec1 c : sProp 𝕄) := by
  rw [scopedRest1_eq]
  unfold lsePhi others
  simp only [owns_whole_eq]
  iintro ⟨%e, %a, -, ⟨%e', -, H5⟩, ⟨%a', -, H6⟩, Hr⟩
  isplitl [H5]; · iexists e'; iexact H5
  isplitl [H6]; · iexists a'; iexact H6
  iexact Hr

/-- The family: this call's data, anything for the other. -/
def lseDats : Dats (F := F) := fun p => match p with
  | ⟨0, _⟩ => fun c => lseDat V c
  | ⟨1, _⟩ => fun c => junkDat c

/-- The finished embeddings' array, written back. -/
def finished (c : Dev nD) : Buf (Elt F) ((c : Thread nD τ).loc main_v19) := (lseDat V c).arrAt 3 cfg1.N

/-- The first call as a region: from `V` to `V` with the finished array in its place. -/
def lseRegion (V' : Dev nD → Valuation τ sig (Elt F)) (hout : ∀ c, V' c main_v19 = finished V c)
    (hne : ∀ c (b : Ref sig .tc), b ≠ main_v19 → V' c b = V c b) :=
  region (F := F) 0 launch1 (lseDats V) V V' (fun _ _ => rfl) (fun _ _ => rfl) (fun _ _ => rfl) (fun _ _ => rfl)
    (fun c => (lse_obligation V c).loose) (lse_in V) (fun c => lse_out V c _)
    (fun c w => match w with
      | ⟨0, _⟩ => ((lseDat V c).arrAt_in 0 rfl _).trans (hne c main_v6 (by decide)).symm
      | ⟨1, _⟩ => ((lseDat V c).arrAt_in 1 rfl _).trans (hne c main_v5 (by decide)).symm
      | ⟨2, _⟩ => ((lseDat V c).arrAt_in 2 rfl _).trans (hne c main_v18 (by decide)).symm
      | ⟨3, _⟩ => (hout c).symm)
    (fun c b hb => hne c b fun h => hb (h ▸ Finset.mem_image.mpr ⟨3, Finset.mem_univ _, rfl⟩))

end Cert.Lse

end
-- ==== Proof.Out.lean ====
/-
  The second TensorCore call: every block of the scores is the product of the embeddings' array with the weights'
  block, and the array of the scores holds the blocks written back.
-/
module

public import proofs.«01_k».proof.Proof.OutBody

@[expose] public section

noncomputable section

namespace Cert.Lse

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig (HIx 1) (Elt F) ℕ UU ℕ

variable (V : Dev nD → Valuation τ sig (Elt F))

/-- The embeddings' block: all of the array. -/
def embBlk (c : Dev nD) (t : Fin cfg2.N) : Vec F S1024x24 .f32 := ((cfg2.win 0).blk t).view.read (Elt F) (V c main_v19)
/-- The weights' block of point `t`. -/
def wBlk (c : Dev nD) (t : Fin cfg2.N) : Vec F S24x2048 .f32 := ((cfg2.win 1).blk t).view.read (Elt F) (V c main_v18)

/-- The second call's proof data, entered from `V`. -/
def outDat (c : Dev nD) : Dat τ (Elt F) (HIx 1) ℕ UU ℕ cfg2 c where
  A w := V c (Pipeline.arrRef spec2 w)
  after w t := match w with
    | ⟨0, _⟩ => embBlk V c t
    | ⟨1, _⟩ => wBlk V c t
    | ⟨2, _⟩ => k2_pay1 (embBlk V c t) (wBlk V c t)
  Φ _ := Pipeline.scopedRest spec2 c
  q _ := fullShare
  owed _ := 0
  recorded _ := waitsAfter (F := F) c

/-- The body finds the embeddings' block staged, -/
theorem out_before_0 (c : Dev nD) (t : Fin cfg2.N) (d : (cfg2.win 0).block.Idx → Elt F (cfg2.win 0).elt) :
    (outDat V c).before 0 t d = embBlk V c t :=
  (outDat V c).before_in_eq_fetched 0 rfl (fun _ => rfl) (fun _ _ _ => rfl) (fun _ => rfl) t d

/-- and the weights' block. -/
theorem out_before_1 (c : Dev nD) (t : Fin cfg2.N) (d : (cfg2.win 1).block.Idx → Elt F (cfg2.win 1).elt) :
    (outDat V c).before 1 t d = wBlk V c t :=
  (outDat V c).before_in_eq_fetched 1 rfl (fun _ => rfl) (fun _ _ _ => rfl) (fun _ => rfl) t d

/-- The body at every point leaves what the proof data names. -/
theorem out_obligation (c : Dev nD) : BodyObligation (outDat V c) (defs₀ (F := F)) 𝒱₀ none Set.univ := fun t => by
  rw [bigSep_W2, bigSep_W2]
  rw [show (outDat V c).Φ t.castSucc = (outDat V c).Φ t.succ from rfl,
    show (outDat V c).owesAt none t.succ = (outDat V c).owesAt none t.castSucc from rfl]
  iintro ⟨HΦ, Howes, ⟨%d0, H0⟩, ⟨%d1, H1⟩, ⟨%d2, H2⟩⟩
  rw [out_before_0, out_before_1]
  iapply (out_body c (grid2.coords t) _ (hstage2_0 ((cfg2.slots t 0).cast nbuf2_0)) _ (hstage2_1 ((cfg2.slots t 1).cast nbuf2_1)) _
    (hstage2_2 ((cfg2.slots t 2).cast nbuf2_2)) (embBlk V c t) (wBlk V c t) _ Set.univ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

/-- The family: this call's data, anything for the other. -/
def outDats : Dats (F := F) := fun p => match p with
  | ⟨0, _⟩ => fun c => junkDat c
  | ⟨1, _⟩ => fun c => outDat V c

/-- The scores once every block is written back. -/
def scores (c : Dev nD) : Buf (Elt F) ((c : Thread nD τ).loc main_v20) := (outDat V c).arrAt 2 cfg2.N

/-- The second call as a region: from `V` to `V` with the scores in their array. -/
def outRegion (V' : Dev nD → Valuation τ sig (Elt F)) (hout : ∀ c, V' c main_v20 = scores V c)
    (hne : ∀ c (b : Ref sig .tc), b ≠ main_v20 → V' c b = V c b) :=
  region (F := F) 1 launch2 (outDats V) V V' (fun _ _ => rfl) (fun _ _ => rfl) (fun _ _ => rfl) (fun _ _ => rfl)
    (fun c => (out_obligation V c).loose) (fun _ => .rfl) (fun _ => .rfl)
    (fun c w => match w with
      | ⟨0, _⟩ => ((outDat V c).arrAt_in 0 rfl _).trans (hne c main_v19 (by decide)).symm
      | ⟨1, _⟩ => ((outDat V c).arrAt_in 1 rfl _).trans (hne c main_v18 (by decide)).symm
      | ⟨2, _⟩ => (hout c).symm)
    (fun c b hb => hne c b fun h => hb (h ▸ Finset.mem_image.mpr ⟨2, Finset.mem_univ _, rfl⟩))

end Cert.Lse

end
-- ==== Proof.Main.lean ====
/-
  The TensorCore's own thread: the operations before the gather (the table packed, the row numbers and the positions in a
  row), the SparseCore call, the operations after it (the augmented weights), and the two TensorCore calls. Each buffer's
  contents at each point are a valuation.
-/
module

public import proofs.«01_k».proof.Proof.Call
public import proofs.«01_k».proof.Proof.Lse
public import proofs.«01_k».proof.Proof.Out

@[expose] public section

noncomputable section

namespace Cert.Lse

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The operations before the gather. -/
def opsBefore : List (HloOp τ sig (Elt F)) :=
  [StableHlo.reshape main_arg1 main_v0 (rfl : (.f32 : EltTy) = .f32) shapeCasts_S100000x16_S12500x128,
   StableHlo.nullary main_c (constantI S_ 32 3#32),
   StableHlo.unary main_c main_v1 (broadcastInDim S1024 ![] bcast_S_S1024 : (⟨S_, .i32⟩ : BufTy).Contents (Elt F) → (⟨S1024, .i32⟩ : BufTy).Contents (Elt F)),
   StableHlo.binary main_arg0 main_v1 main_v2 (Host.shrui : (⟨S1024, .i32⟩ : BufTy).Contents (Elt F) → (⟨S1024, .i32⟩ : BufTy).Contents (Elt F) → (⟨S1024, .i32⟩ : BufTy).Contents (Elt F)),
   StableHlo.nullary main_c_0 (constantI S_ 32 7#32),
   StableHlo.unary main_c_0 main_v3 (broadcastInDim S1024 ![] bcast_S_S1024 : (⟨S_, .i32⟩ : BufTy).Contents (Elt F) → (⟨S1024, .i32⟩ : BufTy).Contents (Elt F)),
   StableHlo.binary main_arg0 main_v3 main_v4 (andi : (⟨S1024, .i32⟩ : BufTy).Contents (Elt F) → (⟨S1024, .i32⟩ : BufTy).Contents (Elt F) → (⟨S1024, .i32⟩ : BufTy).Contents (Elt F)),
   StableHlo.reshape main_v4 main_v5 (rfl : (.i32 : EltTy) = .i32) shapeCasts_S1024_S1024x1]

/-- The operations between the gather and the TensorCore calls. -/
def opsAfter : List (HloOp τ sig (Elt F)) :=
  [StableHlo.unary main_arg2 main_v7 ((transpose S16x100000 [1, 0] · transposes_S100000x16_S16x100000_1_0) : (⟨S100000x16, .f32⟩ : BufTy).Contents (Elt F) → (⟨S16x100000, .f32⟩ : BufTy).Contents (Elt F)),
   StableHlo.reshape main_arg3 main_v8 (rfl : (.f32 : EltTy) = .f32) shapeCasts_S100000_S1x100000,
   StableHlo.nullary main_cst (constant S_ .f32 0x3F800000#32),
   StableHlo.unary main_cst main_v9 (broadcastInDim S1x100000 ![] bcast_S_S1x100000 : (⟨S_, .f32⟩ : BufTy).Contents (Elt F) → (⟨S1x100000, .f32⟩ : BufTy).Contents (Elt F)),
   StableHlo.nullary main_cst_1 (constant S_ .f32 0x00000000#32),
   StableHlo.unary main_cst_1 main_v10 (broadcastInDim S6x100000 ![] bcast_S_S6x100000 : (⟨S_, .f32⟩ : BufTy).Contents (Elt F) → (⟨S6x100000, .f32⟩ : BufTy).Contents (Elt F)),
   StableHlo.nary ![main_v7, main_v8, main_v9, main_v10] main_v11 (fun u => (concatenate S24x100000 0 [⟨S16x100000, (u 0 : (⟨S16x100000, .f32⟩ : BufTy).Contents (Elt F))⟩, ⟨S1x100000, (u 1 : (⟨S1x100000, .f32⟩ : BufTy).Contents (Elt F))⟩, ⟨S1x100000, (u 2 : (⟨S1x100000, .f32⟩ : BufTy).Contents (Elt F))⟩, ⟨S6x100000, (u 3 : (⟨S6x100000, .f32⟩ : BufTy).Contents (Elt F))⟩] concatenates_S16x100000_S1x100000_S1x100000_S6x100000_S24x100000_d0 : (⟨S24x100000, .f32⟩ : BufTy).Contents (Elt F))),
   StableHlo.nullary main_cst_2 (constant S_ .f32 0x00000000#32),
   StableHlo.unary main_cst_2 main_v12 (broadcastInDim S24x1 ![] bcast_S_S24x1 : (⟨S_, .f32⟩ : BufTy).Contents (Elt F) → (⟨S24x1, .f32⟩ : BufTy).Contents (Elt F)),
   StableHlo.nullary main_c_3 (constantI S_ 32 16#32),
   StableHlo.unary main_c_3 main_v13 (broadcastInDim S1 ![] bcast_S_S1 : (⟨S_, .i32⟩ : BufTy).Contents (Elt F) → (⟨S1, .i32⟩ : BufTy).Contents (Elt F)),
   StableHlo.nullary main_c_4 (constantI S_ 32 0#32),
   StableHlo.unary main_c_4 main_v14 (broadcastInDim S1 ![] bcast_S_S1 : (⟨S_, .i32⟩ : BufTy).Contents (Elt F) → (⟨S1, .i32⟩ : BufTy).Contents (Elt F)),
   StableHlo.binary main_v13 main_v14 main_v15 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.nullary main_cst_5 (constant S_ .f32 0xFF800000#32),
   StableHlo.ternary main_v12 main_v15 main_cst_5 main_v16 ((fun x i u => Host.scatter scatter_S24x1_S2_S__n_01_01_0 (fun _ b => b) x i u) : (⟨S24x1, .f32⟩ : BufTy).Contents (Elt F) → (⟨S2, .i32⟩ : BufTy).Contents (Elt F) → (⟨S_, .f32⟩ : BufTy).Contents (Elt F) → (⟨S24x1, .f32⟩ : BufTy).Contents (Elt F)),
   StableHlo.unary main_v16 main_v17 (broadcastInDim S24x2400 ![0, 1] bcast_S24x1_S24x2400_0_1 : (⟨S24x1, .f32⟩ : BufTy).Contents (Elt F) → (⟨S24x2400, .f32⟩ : BufTy).Contents (Elt F)),
   StableHlo.binary main_v11 main_v17 main_v18 ((fun a b => concatenate S24x102400 1 [⟨S24x100000, a⟩, ⟨S24x2400, b⟩] concatenates_S24x100000_S24x2400_S24x102400_d1) : (⟨S24x100000, .f32⟩ : BufTy).Contents (Elt F) → (⟨S24x2400, .f32⟩ : BufTy).Contents (Elt F) → (⟨S24x102400, .f32⟩ : BufTy).Contents (Elt F))]

/-- @main is those two lines about the calls. -/
theorem main_eq (d : Dev nD) : main (F := F) d
    = (StableHlo.seq opsBefore >>= fun _ => sc.run d 0 >>= fun _ => StableHlo.seq opsAfter >>= fun _ =>
        Prog.lift (.customCall (SparseCore.inner (Pipeline.entry 0)) ()) >>= fun _ =>
        Prog.lift (.customCall (SparseCore.inner (Pipeline.entry 1)) ()) >>= fun _ => pure ⟨⟩) := by
  rfl

variable (m : (ℓ : Loc nD τ sig) → Buf (Elt F) ℓ)

/-! ## The buffers' contents along the run -/

/-- At launch. -/
def V0 (d : Dev nD) : Valuation τ sig (Elt F) := fun b => m (d, b)
/-- When the gather starts. -/
def V1 (d : Dev nD) : Valuation τ sig (Elt F) := StableHlo.after opsBefore (V0 m d)
/-- The packed table the gather reads. -/
def table (d : Dev nD) : Buf (Elt F) (tLoc d) := V1 m d main_v0
/-- The row numbers it reads. -/
def rowsOf (d : Dev nD) : Buf (Elt F) (rLoc d) := V1 m d main_v2
/-- When the gather has ended. -/
def V2 (d : Dev nD) : Valuation τ sig (Elt F) := Function.update (V1 m d) (Proc.devRef .tc main_v6) (gOut (table m) (rowsOf m) d)
/-- When the first TensorCore call starts. -/
def V3 (d : Dev nD) : Valuation τ sig (Elt F) := StableHlo.after opsAfter (V2 m d)
/-- When it has ended. -/
def V4 (d : Dev nD) : Valuation τ sig (Elt F) := Function.update (V3 m d) (Proc.devRef .tc main_v19) (finished (V3 m) d)
/-- When the second has ended. -/
def V5 (d : Dev nD) : Valuation τ sig (Elt F) := Function.update (V4 m d) (Proc.devRef .tc main_v20) (scores (V4 m) d)

theorem update_ne (U : Valuation τ sig (Elt F)) (a b : Ref sig .tc) (x : Buf (Elt F) (((0 : Dev nD) : Thread nD τ).loc a)) (h : b ≠ a) :
    (Function.update U (Proc.devRef .tc a) x : Valuation τ sig (Elt F)) (Proc.devRef .tc b) = U (Proc.devRef .tc b) :=
  Function.update_of_ne (fun e => h (Proc.devRef_injective _ e)) _ _

/-- The gather's three operands. -/
def gatherRefs : Finset (DevRef τ sig) := {Proc.devRef .tc main_v2, Proc.devRef .tc main_v0, Proc.devRef .tc main_v6}

theorem gatherRefs_sub : gatherRefs ⊆ ucRefs := by decide

/-- The three operands held at a valuation. -/
theorem held_gatherRefs (d : Dev nD) (U : Valuation τ sig (Elt F)) :
    (StableHlo.held (d : Thread nD τ) gatherRefs U : sProp 𝕄)
      = iprop((rLoc d ↦{fullShare} U main_v2) ∗ (tLoc d ↦{fullShare} U main_v0) ∗ (gLoc d ↦{fullShare} U main_v6)) := by
  unfold StableHlo.held gatherRefs
  rw [SparseCore.bigSep_insert' (by decide), SparseCore.bigSep_insert' (by decide), bigSep_singleton]

theorem V2_rows (d : Dev nD) : V2 m d main_v2 = rowsOf m d := update_ne _ main_v6 main_v2 _ (by decide)
theorem V2_table (d : Dev nD) : V2 m d main_v0 = table m d := update_ne _ main_v6 main_v0 _ (by decide)
theorem V2_gathered (d : Dev nD) : V2 m d main_v6 = gOut (table m) (rowsOf m) d := Function.update_self _ _ _

/-- The gather's three operands taken out of the unscoped buffers, and put back with the result replaced. -/
theorem held_gather (d : Dev nD) :
    (StableHlo.held (d : Thread nD τ) ucRefs (V1 m d) : sProp 𝕄)
      ⊢ iprop(((rLoc d ↦{fullShare} rowsOf m d) ∗ (tLoc d ↦{fullShare} table m d) ∗ (gLoc d ↦{fullShare} V1 m d main_v6))
          ∗ (((rLoc d ↦{fullShare} rowsOf m d) ∗ (tLoc d ↦{fullShare} table m d) ∗ (gLoc d ↦{fullShare} gOut (table m) (rowsOf m) d))
              -∗ StableHlo.held (d : Thread nD τ) ucRefs (V2 m d))) := by
  rw [StableHlo.held_sub_split _ gatherRefs_sub (V1 m d), StableHlo.held_sub_split _ gatherRefs_sub (V2 m d), held_gatherRefs, held_gatherRefs,
    V2_rows, V2_table, V2_gathered,
    StableHlo.held_congr (d : Thread nD τ) (S := ucRefs \ gatherRefs) (V := V2 m d) (V' := V1 m d) fun b hb =>
      Function.update_of_ne (fun h => (Finset.mem_sdiff.mp hb).2 (by rw [h]; decide)) _ _]
  iintro ⟨H, Hr⟩
  isplitl [H]; · iexact H
  iintro H
  isplitl [H] <;> iassumption

/-! ## The run of @main -/

omit [FloatOps F] in
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

open StableHlo in
theorem before_sub : ∀ op ∈ opsBefore (F := F), op.bufs ⊆ ucRefs := fun op h => sub_ucRefs op
  (List.forall_iff_forall_mem.mp (show (opsBefore (F := F)).Forall fun op => op.bufs ⊆ StableHlo.tcRefs τ sig from
    ⟨reshape_bufs_sub .., nullary_bufs_sub .., unary_bufs_sub .., binary_bufs_sub .., nullary_bufs_sub .., unary_bufs_sub .., binary_bufs_sub .., reshape_bufs_sub ..⟩) op h)
open StableHlo in
theorem after_sub : ∀ op ∈ opsAfter (F := F), op.bufs ⊆ ucRefs := fun op h => sub_ucRefs op
  (List.forall_iff_forall_mem.mp (show (opsAfter (F := F)).Forall fun op => op.bufs ⊆ StableHlo.tcRefs τ sig from
    ⟨unary_bufs_sub .., reshape_bufs_sub .., nullary_bufs_sub .., unary_bufs_sub .., nullary_bufs_sub .., unary_bufs_sub .., nary_bufs_sub .., nullary_bufs_sub .., unary_bufs_sub .., nullary_bufs_sub .., unary_bufs_sub .., nullary_bufs_sub .., unary_bufs_sub .., binary_bufs_sub .., nullary_bufs_sub .., ternary_bufs_sub .., unary_bufs_sub .., binary_bufs_sub ..⟩) op h)
theorem before_fresh : ∀ op ∈ opsBefore (F := F), op.fresh = ∅ := by
  intro _ h; (repeat (cases h with | head => rfl | tail _ h => ?_)); exact nomatch h
theorem after_fresh : ∀ op ∈ opsAfter (F := F), op.fresh = ∅ := by
  intro _ h; (repeat (cases h with | head => rfl | tail _ h => ?_)); exact nomatch h

/-- The two pipelines' ghost state on one device. -/
abbrev ghosts (d : Dev nD) : sProp 𝕄 :=
  iprop((bigSep Finset.univ fun p : Fin 2 => Pipeline.cellsGhost (Pipeline.pin (pcfgs (F := F)) adm) EP p d)
    ∗ (bigSep Finset.univ fun p : Fin 2 => Pipeline.toksInit (Pipeline.pin (pcfgs (F := F)) adm) EP p d))

/-- The first TensorCore call as a region of the run. -/
def reg1 := lseRegion (F := F) (V3 m) (V4 m) (fun _ => Function.update_self _ _ _) (fun _ b h => update_ne _ main_v19 b _ h)
/-- The second. -/
def reg2 := outRegion (F := F) (V4 m) (V5 m) (fun _ => Function.update_self _ _ _) (fun _ b h => update_ne _ main_v20 b _ h)

/-- Once the SparseCore call is over the TensorCore owes nothing, and gives that back for its state. -/
theorem tcSt_one (d : Dev nD) : ((K (F := F)).tcSt EH d ((0 : Fin 1).val + 1) : sProp 𝕄) ⊢ iprop(owesNone (F := F) d ∗ (owesNone (F := F) d -∗ (K (F := F)).tcSt EH d 1)) := by
  rw [show (0 : Fin 1).val + 1 = 1 from rfl]
  unfold SparseCore.Cfg.tcSt
  rw [(K (F := F)).Otc_end d (le_refl 1)]
  iintro ⟨HO, Hr⟩
  isplitl [HO]; · iexact HO
  iintro HO
  isplitl [HO]; · iexact HO
  iexact Hr

/-- A TensorCore call as a step of the program: from the boundary, what the region asks, the levels and its pipeline's
    ghost state, to the boundary and what the region leaves. -/
theorem call_wp [∀ e, Nonempty (Elt F e)] {pdats : Dats (F := F)} (p : Fin 2)
    (R : Pipeline.RegionSeg (pcfgs (F := F)) adm pdats none defs₀ 𝒱₀ (K (F := F)).L (K (F := F)).lev p) (d : Dev nD) (Φ : PUnit → sProp 𝕄) :
    iprop((iprop(boundary (d : Thread nD τ) ∗ R.post d) -∗ Φ ⟨⟩) ∗ boundary (d : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (SparseCore.T d) none) Set.univ
          (Prog.lift (.customCall (SparseCore.inner (Pipeline.entry p)) ())) Φ := by
  refine BI.Entails.trans ?_ ((K (F := F)).wp_liftProg (D (F := F)) 𝒱 (SparseCore.T d) Set.univ none
    (.op (.customCall (Pipeline.entry p) ()) fun r => .ret r) Φ)
  refine BIBase.Entails.trans ?_ (Pipeline.RegionSeg.wp (pcfgs (F := F)) adm pdats none cellOf_inj EP defs₀ 𝒱₀ (K (F := F)).L (K (F := F)).lev R d none
    (fun u h => nomatch h) (fun r => .ret r) Φ)
  iintro ⟨Hk, H⟩
  isplitl [Hk]
  · iintro H
    rw [wp_ret]
    imodintro
    iapply Hk; iexact H
  iexact H

theorem reg1_pre (d : Dev nD) : (reg1 m).pre d = (iprop(StableHlo.held (d : Thread nD τ) ucRefs (V3 m d) ∗ owesNone (F := F) d) : sProp 𝕄) := rfl
theorem reg1_post (d : Dev nD) : (reg1 m).post d = (iprop(StableHlo.held (d : Thread nD τ) ucRefs (V4 m d) ∗ owesNone (F := F) d) : sProp 𝕄) := rfl
theorem reg2_pre (d : Dev nD) : (reg2 m).pre d = (iprop(StableHlo.held (d : Thread nD τ) ucRefs (V4 m d) ∗ owesNone (F := F) d) : sProp 𝕄) := rfl
theorem reg2_post (d : Dev nD) : (reg2 m).post d = (iprop(StableHlo.held (d : Thread nD τ) ucRefs (V5 m d) ∗ owesNone (F := F) d) : sProp 𝕄) := rfl

variable (ρ : Dev nD → PrngReg)

theorem st0_eq (g₀ : (d : Dev nD) → Buf (Elt F) (gLoc d)) (d : Dev nD) :
    (bigSep Finset.univ fun c : Fin ((K (F := F)).nCore 0) => (P (table m) (rowsOf m) g₀).st 0 d c)
      = (iprop((rLoc d ↦{fullShare} rowsOf m d) ∗ (tLoc d ↦{fullShare} table m d) ∗ (gLoc d ↦{fullShare} g₀ d)) : sProp 𝕄) :=
  whole_split (table m) (rowsOf m) g₀ d
theorem dn0_eq (g₀ : (d : Dev nD) → Buf (Elt F) (gLoc d)) (d : Dev nD) :
    (bigSep Finset.univ fun c : Fin ((K (F := F)).nCore 0) => (P (table m) (rowsOf m) g₀).dn 0 d c)
      = (iprop((rLoc d ↦{fullShare} rowsOf m d) ∗ (tLoc d ↦{fullShare} table m d) ∗ (gLoc d ↦{fullShare} gOut (table m) (rowsOf m) d)) : sProp 𝕄) :=
  whole_split (table m) (rowsOf m) (gOut (table m) (rowsOf m)) d

/-- What the SparseCore call carries in this run. -/
abbrev PM : (K (F := F)).Pay (nD := nD) (Val := Elt F) (Name := ℕ) (U := UU) := P (table m) (rowsOf m) (fun d => V1 m d main_v6)

/-- @main on device `d`'s TensorCore, from the launch's contents to those the second call leaves. -/
theorem main_wp [∀ e, Nonempty (Elt F e)] (κ : GSem nD τ sig → ℕ) (d : Dev nD) :
    iprop((K (F := F)).ctx EH (PM m) κ ∗ (K (F := F)).tcSt EH d 0 ∗ (K (F := F)).tcRes m ρ d ∗ ghosts d)
      ⊢ wp frame (wpE ((K (F := F)).defs (D (F := F))) 𝒱 (SparseCore.T d) none) Set.univ (main d)
          fun _ => iprop((K (F := F)).tcSt EH d 1 ∗ StableHlo.held (d : Thread nD τ) ucRefs (V5 m d) ∗ (K (F := F)).tcEnd d) := by
  unfold SparseCore.Cfg.tcRes SparseCore.Cfg.tcEnd
  rw [show unscopedBufs d (fun b => m ((SparseCore.T d).loc b)) = StableHlo.held (d : Thread nD τ) ucRefs (V0 m d) from unscopedBufs_held d (V0 m d), main_eq]
  iintro ⟨#Hctx, Hst, ⟨Hb, Hub, Hts, -⟩, HG⟩
  iapply (StableHlo.wp_seq 𝒱 none Set.univ d ucRefs _ opsBefore before_sub before_fresh (V0 m d)) $$ [Hb Hub]
  · isplitl [Hb] <;> iassumption
  iintro ⟨Hb, Hub⟩
  rw [show StableHlo.after opsBefore (V0 m d) = V1 m d from rfl]
  ihave H := (held_gather m d) $$ Hub
  icases H with ⟨Hg, Hback⟩
  rw [wp_bind]
  iapply ((K (F := F)).wp_run (D (F := F)) 𝒱 (EH := EH) (P := PM m) κ d 0) $$ [Hst Hg Hback Hb Hts HG]
  isplitr; · iexact Hctx
  isplitl [Hst]; · iexact Hst
  isplitl [Hg]; · rw [st0_eq]; iexact Hg
  iintro ⟨Hst, Hdn⟩
  ihave Hdn' := (Entails.of_eq (dn0_eq m (fun d => V1 m d main_v6) d)) $$ Hdn
  ihave Hub := Hback $$ Hdn'
  iapply (StableHlo.wp_seq 𝒱 none Set.univ d ucRefs _ opsAfter after_sub after_fresh (V2 m d)) $$ [Hb Hub]
  · isplitl [Hb] <;> iassumption
  iintro ⟨Hb, Hub⟩
  rw [show StableHlo.after opsAfter (V2 m d) = V3 m d from rfl]
  ihave Hst' := (tcSt_one d) $$ Hst
  icases Hst' with ⟨HO, Hst⟩
  ihave #Hlev := ((K (F := F)).ctx_levAts (EH := EH) (P := PM m) κ) $$ Hctx
  unfold ghosts
  rw [show (Finset.univ : Finset (Fin 2)) = {0, 1} from rfl, SparseCore.bigSep_insert' (by decide), SparseCore.bigSep_insert' (by decide), bigSep_singleton, bigSep_singleton]
  icases HG with ⟨⟨Hc0, Hc1⟩, Ht0, Ht1⟩
  rw [wp_bind]
  iapply (call_wp 0 (reg1 m) d) $$ [Hb Hub HO Hst Hts Hc0 Hc1 Ht0 Ht1]
  isplitl [Hst Hts Hc1 Ht1]
  · iintro ⟨Hb, Hp⟩
    ihave Hp := (Entails.of_eq (reg1_post m d)) $$ Hp
    rw [wp_bind]
    iapply (call_wp 1 (reg2 m) d) $$ [Hb Hp Hst Hts Hc1 Ht1]
    isplitl [Hst Hts]
    · iintro ⟨Hb, Hp⟩
      ihave Hp' := (Entails.of_eq (reg2_post m d)) $$ Hp
      icases Hp' with ⟨Hub, HO⟩
      simp only [wp_pure]
      imodintro
      isplitl [Hst HO]; · iapply Hst; iexact HO
      isplitl [Hub]; · iexact Hub
      isplitl [Hb] <;> iassumption
    isplitl [Hb]; · iexact Hb
    isplitl [Hp]; · rw [reg2_pre]; iexact Hp
    isplitr; · iexact Hlev
    isplitl [Hc1] <;> iassumption
  isplitl [Hb]; · iexact Hb
  isplitl [Hub HO]; · rw [reg1_pre]; isplitl [Hub] <;> iassumption
  isplitr; · iexact Hlev
  isplitl [Hc0] <;> iassumption

end Cert.Lse

end
-- ==== Proof.Run.lean ====
/-
  The program's run: at launch the ghost state funds the handshakes and the two pipelines; @main ends with every buffer
  at the contents the second TensorCore call leaves; the four arguments are as they were and the result is what the
  second call wrote.
-/
module

public import proofs.«01_k».proof.Proof.Main
public import Idealize.ShloMosaic.Lib.StableHlo.RunRead

@[expose] public section

noncomputable section

namespace Cert.Lse

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The ghost state at launch -/

/-- The handshakes' rounds, the pipelines' rounds, no counter. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

omit [FloatOps F] in
theorem nothing_everywhere {I : Type} (s : Finset I) : (bigSep s fun _ => iprop(emp)) = (iprop(emp) : sProp 𝕄) := bigSep_emp_const s

/-- It funds the handshakes and, on each device, the two pipelines; the call keeps nothing of it for itself. -/
theorem u₀_splits : (ownU (u₀ (F := F)) : sProp 𝕄)
    ⊢ |={Set.univ}=> iprop(BI.own (EH (initOf (K (F := F)).hsCells (K (F := F)).hsToks)) ∗ (bigSep Finset.univ fun d : Dev nD => ghosts (F := F) d)
        ∗ bigSep Finset.univ fun thr : Thread nD τ => bigSep Finset.univ fun q : Fin 1 => (PM m).x q thr) := by
  unfold u₀
  iintro Hu
  ihave H := (ownU_pair _ _) $$ Hu
  icases H with ⟨HH, HP⟩
  ihave HP' := (own_pair_emb embR _ _) $$ HP
  icases HP' with ⟨HP, -⟩
  imod (Pipeline.fund_ghost (Pipeline.pin (pcfgs (F := F)) adm) EP cellOf_inj) $$ HP with ⟨Hc, Ht⟩
  imodintro
  isplitl [HH]; · iexact HH
  isplitl [Hc Ht]
  · rw [bigSep_sep']; isplitl [Hc] <;> iassumption
  rw [show (bigSep Finset.univ fun thr : Thread nD τ => bigSep Finset.univ fun q : Fin 1 => (PM m).x q thr) = bigSep Finset.univ fun _ => iprop(emp) from
    bigSep_congr fun _ _ => bigSep_univ_of_subsingleton (0 : Fin 1), nothing_everywhere]
  iempintro

/-! ## What the run leaves -/

/-- The final contents of every unscoped buffer. -/
def Final (d : Dev nD) (s' : Phys nD τ sig (Elt F)) : Prop := ∀ b ∈ ucRefs, s'.mem.mem (d, b) = V5 m d b

theorem final_of_held (d : Dev nD) (s' : Phys nD τ sig (Elt F)) :
    iprop(StableHlo.held (d : Thread nD τ) ucRefs (V5 m d) ∗ SI s') ⊢ (⌜Final m d s'⌝ : sProp 𝕄) :=
  sep_comm.1.trans (SI_pointsTo_bufs_agree (qs := fun _ => fullShare) ucRefs)

/-- The buffers the operations before the gather write. -/
def writesBefore : List (Ref sig .tc) := [main_v0, main_c, main_v1, main_v2, main_c_0, main_v3, main_v4, main_v5]
/-- The buffers the operations after it write. -/
def writesAfter : List (Ref sig .tc) :=
  [main_v7, main_v8, main_cst, main_v9, main_cst_1, main_v10, main_v11, main_cst_2, main_v12, main_c_3, main_v13, main_c_4, main_v14, main_v15,
    main_cst_5, main_v16, main_v17, main_v18]

/-- A buffer no operation writes is the same before the line and after it. -/
theorem V1_unwritten (d : Dev nD) {r : Ref sig .tc} (h : r ∉ writesBefore) : V1 m d r = m ((d : Thread nD τ).loc r) :=
  StableHlo.after_unwritten writesBefore rfl h _
theorem V3_unwritten (d : Dev nD) {r : Ref sig .tc} (h : r ∉ writesAfter) : V3 m d r = V2 m d r :=
  StableHlo.after_unwritten writesAfter rfl h _

/-- A buffer the program does not write ends as launched. -/
theorem V5_unwritten (d : Dev nD) {r : Ref sig .tc} (h : r ∉ writesBefore ++ main_v6 :: writesAfter ++ [main_v19, main_v20]) :
    V5 m d r = m ((d : Thread nD τ).loc r) := by
  simp only [List.mem_append, List.mem_cons, not_or, List.not_mem_nil, not_false_eq_true, and_true] at h
  obtain ⟨⟨h1, h6, h2⟩, h19, h20⟩ := h
  unfold V5
  rw [update_ne _ _ _ _ h20]
  unfold V4
  rw [update_ne _ _ _ _ h19, V3_unwritten m d h2]
  unfold V2
  rw [update_ne _ _ _ _ h6, V1_unwritten m d h1]

/-- The indices as launched. -/
def idxOf (d : Dev nD) : S1024.Idx → BitVec 32 := m ((d : Thread nD τ).loc main_arg0)

theorem rowsOf_shifted (d : Dev nD) : rowsOf m d = (Host.shrui (idxOf m d) (fun _ => 3#32) : S1024.Idx → BitVec 32) := by
  rfl

/-- The row number of position `j` is the index shifted right by three. -/
theorem rowsOf_eq (d : Dev nD) (j : S1024.Idx) : rowsOf m d j = idxOf m d j >>> 3 := by
  rw [rowsOf_shifted]; rfl

/-- Every index below 100000 names a row of the packed table. -/
theorem rowsOK (h : ∀ (d : Dev nD) (j : S1024.Idx), (idxOf m d j).toNat < 100000) : RowsOK (F := F) (rowsOf m) := by
  intro d j
  rw [rowsOf_eq]
  have := h d j
  rw [BitVec.toNat_ushiftRight, Nat.shiftRight_eq_div_pow]
  omega

theorem mem_ucRefs (r : Ref sig .tc) (h : r.isScoped = false) : Proc.devRef .tc r ∈ ucRefs :=
  Finset.mem_filter.mpr ⟨StableHlo.devRef_mem_tcRefs r, by simpa using h⟩

/-- The run: the four arguments unchanged, the result at the second call's scores, every counter at zero. -/
theorem run_main [∀ e, Nonempty (Elt F e)]
    (h : ∀ (d : Dev nD) (j : S1024.Idx), (idxOf m d j).toNat < 100000) :
    θ_run (defs (F := F)) (threads (F := F)) ⟨m, fun _ => 0, ρ⟩ fun r =>
      (∀ d : Dev nD, r.2.mem ((d : Thread nD τ).loc main_v20) = scores (V4 m) d
        ∧ r.2.mem ((d : Thread nD τ).loc main_arg0) = m ((d : Thread nD τ).loc main_arg0)
        ∧ r.2.mem ((d : Thread nD τ).loc main_arg1) = m ((d : Thread nD τ).loc main_arg1)
        ∧ r.2.mem ((d : Thread nD τ).loc main_arg2) = m ((d : Thread nD τ).loc main_arg2)
        ∧ r.2.mem ((d : Thread nD τ).loc main_arg3) = m ((d : Thread nD τ).loc main_arg3))
      ∧ r.2.sem = fun _ => 0 :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (table m) (rowsOf m) _ facts (rowsOK m h))
    (fun q _ => match q with | 0 => SparseCore.Cfg.VecSplit.of_plain (vecSplit (table m) (rowsOf m) _))
    m ρ main (fun d => ghosts (F := F) d) (fun d => StableHlo.held (d : Thread nD τ) ucRefs (V5 m d)) (u₀ (F := F)) (sep_elim_left.trans (u₀_splits m))
    (main_wp m ρ) (Final m) (final_of_held m) _
    (fun s' hf hz => ⟨fun d => ⟨(hf d _ (mem_ucRefs main_v20 rfl)).trans (Function.update_self _ _ _),
      (hf d _ (mem_ucRefs main_arg0 rfl)).trans (V5_unwritten m d (r := main_arg0) (by decide)), (hf d _ (mem_ucRefs main_arg1 rfl)).trans (V5_unwritten m d (r := main_arg1) (by decide)),
      (hf d _ (mem_ucRefs main_arg2 rfl)).trans (V5_unwritten m d (r := main_arg2) (by decide)), (hf d _ (mem_ucRefs main_arg3 rfl)).trans (V5_unwritten m d (r := main_arg3) (by decide))⟩, hz⟩)

end Cert.Lse

end
-- ==== Proof.Pre.lean ====
/-
  The preconditions read element by element: every index is below 100000, and every entry of the embedding table and of
  the projection's weights is a finite number.
-/
module

public import proofs.«01_k».proof.Defs
public import proofs.«01_k».proof.Proof.Gen.Pre_in_range
public import proofs.«01_k».proof.Proof.Gen.Pre_finite_and_in_range
public import Idealize.ShloMosaic.Lib.ReduceAll
public import Idealize.ShloMosaic.Lib.WordArith
public import Idealize.ShloMosaic.Lib.IdealHost

@[expose] public section

noncomputable section

namespace Cert.Lse

open Idealize.ShloMosaic

/-- A word between 0 and 100000 as a signed number is below 100000 as an unsigned one. -/
theorem word_lt {v : BitVec 32} (h0 : IntOp.cmpi .sge v 0#32 = 1#1) (h1 : IntOp.cmpi .slt v 100000#32 = 1#1) : v.toNat < 100000 := by
  simp only [IntOp.cmpi, WordArith.ofBool_eq_one_iff, BitVec.sle_eq_decide, BitVec.slt_eq_decide,
    decide_eq_true_eq, BitVec.toInt_eq_toNat_cond, BitVec.toNat_ofNat, Nat.reducePow, Nat.reduceMod] at h0 h1
  omega

theorem andi_one {a b : BitVec 1} (h : IntOp.andi a b = 1#1) : a = 1#1 ∧ b = 1#1 := by
  revert a b; decide

/-- The range precondition bounds every index. -/
theorem idx_lt_of_in_range {F : FTy → Type} [FloatOps F] (a0 : IVec Pre_in_range.S1024 32) (a1 : FVec F Pre_in_range.S100000x16 .f32)
    (a2 : FVec F Pre_in_range.S100000x16 .f32) (a3 : FVec F Pre_in_range.S100000 .f32)
    (h : Pre_in_range.fn a0 a1 a2 a3 = fun _ => 1#1) (j : Pre_in_range.S1024.Idx) : (a0 j).toNat < 100000 := by
  have e := congrFun h (fun a => a.elim0)
  simp only [Pre_in_range.fn, andi] at e
  obtain ⟨e0, e1⟩ := andi_one e
  haveI : Subsingleton Pre_in_range.S_.Idx := ⟨fun x y => funext fun a => a.elim0⟩
  exact word_lt (Host.reduce_andi_all _ _ _ _ _ e0 j) (Host.reduce_andi_all _ _ _ _ _ e1 j)

/-- A number whose absolute value is below infinity is a real. -/
theorem finite_of_bit {x : Ideal .f32} (h : FloatOps.cmpf (F := Ideal) (φ := .f32) .olt (FloatOps.absf (F := Ideal) (φ := .f32) x) (FloatOps.ofBits (F := Ideal) .f32 0x7F800000#32) = 1#1) :
    ∃ r : ℝ, (x : EReal) = (r : EReal) := by
  have htop : FloatOps.ofBits (F := Ideal) .f32 0x7F800000#32 = (⊤ : EReal) := by
    show Ideal.ofBits .f32 0x7F800000#32 = ⊤
    simp [Ideal.ofBits, Ideal.ieee]
  rw [htop] at h
  have hlt : max (x : EReal) (-x) < ⊤ := by simpa [FloatOps.cmpf, FloatOps.absf, Ideal.cmp, WordArith.ofBool_eq_one_iff] using h
  induction x using EReal.rec with
  | bot => simp at hlt
  | coe r => exact ⟨r, rfl⟩
  | top => simp at hlt

/-- The finiteness precondition bounds every index and makes every table entry and every weight a real. -/
theorem finite_of_pre (a0 : IVec Pre_finite_and_in_range.S1024 32) (a1 : FVec Ideal Pre_finite_and_in_range.S100000x16 .f32)
    (a2 : FVec Ideal Pre_finite_and_in_range.S100000x16 .f32) (a3 : FVec Ideal Pre_finite_and_in_range.S100000 .f32)
    (h : Pre_finite_and_in_range.fn a0 a1 a2 a3 = fun _ => 1#1) :
    (∀ j, (a0 j).toNat < 100000) ∧ (∀ i, ∃ r : ℝ, (a1 i : EReal) = (r : EReal)) ∧ ∀ i, ∃ r : ℝ, (a2 i : EReal) = (r : EReal) := by
  have e := congrFun h (fun a => a.elim0)
  simp only [Pre_finite_and_in_range.fn, Pre_finite_and_in_range.fn_part1, andi] at e
  obtain ⟨e, e3⟩ := andi_one e
  obtain ⟨e, e2⟩ := andi_one e
  obtain ⟨e0, e1⟩ := andi_one e
  haveI : Subsingleton Pre_finite_and_in_range.S_.Idx := ⟨fun x y => funext fun a => a.elim0⟩
  exact ⟨fun j => word_lt (Host.reduce_andi_all _ _ _ _ _ e0 j) (Host.reduce_andi_all _ _ _ _ _ e1 j),
    fun i => finite_of_bit (Host.reduce_andi_all _ _ _ _ _ e2 i), fun i => finite_of_bit (Host.reduce_andi_all _ _ _ _ _ e3 i)⟩

end Cert.Lse

end
-- ==== Proof.Frames.lean ====
/-
  The frames: the kernel as printed and as read exactly, and the reference, each runs to its end, its arguments unchanged
  and every counter back at zero.
-/
module

public import proofs.«01_k».proof.Proof.Run
public import proofs.«01_k».proof.Proof.Pre
public import proofs.«01_k».proof.Proof.Gen.Kernel
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Lse

open Idealize.ShloMosaic Idealize.SL.Sem

instance elt_nonempty_bits (e : EltTy) : Nonempty (Elt Bits e) := by cases e <;> exact ⟨(0 : BitVec _)⟩
instance elt_nonempty_ideal (e : EltTy) : Nonempty (Elt Ideal e) := by
  cases e <;> first | exact ⟨(0 : EReal)⟩ | exact ⟨(0 : BitVec _)⟩

/-- Over any float values the kernel runs to its end, its arguments unchanged and its counters at zero. -/
theorem frame_any {F : FTy → Type} [FloatOps F] [∀ e, Nonempty (Elt F e)]
    (m : (ℓ : Loc Cert.KernelIdeal.nD Cert.KernelIdeal.τ Cert.KernelIdeal.sig) → Buf (Elt F) ℓ)
    (ρ : Dev Cert.KernelIdeal.nD → PrngReg) (h : ∀ d j, (idxOf m d j).toNat < 100000) :
    θ_run Cert.KernelIdeal.defs Cert.KernelIdeal.threads ⟨m, fun _ => 0, ρ⟩ fun r =>
      (∀ c : Dev Cert.KernelIdeal.nD,
        r.2.mem (c.tc.loc Cert.KernelIdeal.main_arg0) = m (c.tc.loc Cert.KernelIdeal.main_arg0) ∧
        r.2.mem (c.tc.loc Cert.KernelIdeal.main_arg1) = m (c.tc.loc Cert.KernelIdeal.main_arg1) ∧
        r.2.mem (c.tc.loc Cert.KernelIdeal.main_arg2) = m (c.tc.loc Cert.KernelIdeal.main_arg2) ∧
        r.2.mem (c.tc.loc Cert.KernelIdeal.main_arg3) = m (c.tc.loc Cert.KernelIdeal.main_arg3)) ∧
      r.2.sem = fun _ => 0 :=
  (θ_run Cert.KernelIdeal.defs _ _).mono (fun _ h => ⟨fun c => (h.1 c).2, h.2⟩) (run_main m ρ h)

/-- The printed kernel's bodies are the bodies read exactly, at the words of the formats. -/
theorem bodies_eq : @Cert.Kernel.defs₀ Bits _ _ = @Cert.KernelIdeal.defs₀ Bits _ _ := by
  funext p l a
  match p, l, a with
  | .scVector _ _, 0, _ => rfl
  | .scVector _ _, 1, _ => rfl
  | .scVector _ _, 2, _ => rfl
  | .scScalar _, 0, _ => rfl
  | .scScalar _, 1, _ => rfl
  | .scScalar _, 2, _ => rfl
  | .tc, 0, _ => rfl
  | .tc, 1, _ => rfl
  | .tc, 2, _ => rfl

/-- So its labels' programs are too. -/
theorem programs_eq : @Cert.Kernel.defs Bits _ _ = @Cert.KernelIdeal.defs Bits _ _ :=
  congrArg (fun D => (Cert.KernelIdeal.sc (F := Bits)).defs (Pipeline.defs (Cert.KernelIdeal.pcfgs (F := Bits)) D))
    bodies_eq

/-- The printed kernel is the same text at the words of the formats. -/
theorem frame_kernel : Cert.quiescent_Kernel := by
  intro m ρ h
  rw [programs_eq]
  exact frame_any (F := Bits) m ρ fun d => idx_lt_of_in_range (F := Bits) _ _ _ _ (h d)

/-- The kernel read exactly. -/
theorem frame_ideal : Cert.quiescent_KernelIdeal := fun m ρ h =>
  frame_any (F := Ideal) m ρ fun d => idx_lt_of_in_range (F := Ideal) _ _ _ _ (h d)

/-- The reference read exactly. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel read exactly, where the table and the weights are finite. -/
theorem frame_ideal_finite : Cert.quiescent_KernelIdeal_pre_finite_and_in_range := fun m ρ h =>
  frame_any (F := Ideal) m ρ fun d => (finite_of_pre _ _ _ _ (h d)).1

/-- The reference read exactly, there. -/
theorem frame_reference_finite : Cert.quiescent_ReferenceIdeal_pre_finite_and_in_range := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Lse

end
-- ==== Proof.Softmax.lean ====
/-
  The logarithm of the softmax over the extended reals: whatever real number a row is shifted by before the exponentials
  are summed, the result is the same; and where no real shift is at hand, because a bias is infinite or all are minus
  infinity, the shift by a bound and the shift by the maximum still agree.
-/
module

public import Idealize.ShloMosaic.PureOps.Ideal

@[expose] public section

noncomputable section

namespace Cert.Lse

open Idealize.ShloMosaic
open scoped BigOperators

variable {ι : Type} [Fintype ι]

/-- The exponential of a number that is not plus infinity, as a real. -/
def ex (a : EReal) : ℝ := if a = ⊥ then 0 else Real.exp a.toReal

theorem exp_eq_ex {a : EReal} (h : a ≠ ⊤) : Ideal.exp a = (ex a : EReal) := by
  induction a with
  | bot => simp [ex]
  | top => exact absurd rfl h
  | coe r => simp [ex]

theorem ex_nonneg (a : EReal) : 0 ≤ ex a := by
  unfold ex; split
  · exact le_rfl
  · exact (Real.exp_pos _).le

theorem ex_pos {a : EReal} (h : a ≠ ⊥) : 0 < ex a := by
  unfold ex; rw [if_neg h]; exact Real.exp_pos _

/-- Shifting by a real scales the exponential. -/
theorem ex_shift {a : EReal} (h : a ≠ ⊤) (K : ℝ) : ex (a + -(K : EReal)) = ex a * Real.exp (-K) := by
  induction a with
  | bot => simp [ex]
  | top => exact absurd rfl h
  | coe r =>
    have e : ((r : EReal) + -(K : EReal)) = ((r + -K : ℝ) : EReal) := by push_cast; rfl
    rw [e]
    simp [ex, -EReal.coe_add, -EReal.coe_neg, Real.exp_add]

theorem add_neg_ne_top {a : EReal} (h : a ≠ ⊤) (K : ℝ) : a + -(K : EReal) ≠ ⊤ := by
  induction a with
  | bot => simp
  | top => exact absurd rfl h
  | coe r =>
    have e : ((r : EReal) + -(K : EReal)) = ((r + -K : ℝ) : EReal) := by push_cast; rfl
    rw [e]; exact EReal.coe_ne_top _

theorem coe_sum (f : ι → ℝ) : ∑ j, ((f j : ℝ) : EReal) = ((∑ j, f j : ℝ) : EReal) := by
  classical
  refine Finset.induction_on (Finset.univ : Finset ι) (by simp) fun a s ha ih => ?_
  rw [Finset.sum_insert ha, Finset.sum_insert ha, ih, EReal.coe_add]

/-- The sum of the exponentials of a row shifted by a real. -/
theorem sum_exp_shift {x : ι → EReal} (hx : ∀ j, x j ≠ ⊤) (K : ℝ) :
    ∑ j, Ideal.exp (x j + -(K : EReal)) = (((∑ j, ex (x j)) * Real.exp (-K) : ℝ) : EReal) := by
  rw [Finset.sum_mul, ← coe_sum]
  exact Finset.sum_congr rfl fun j _ => by rw [exp_eq_ex (add_neg_ne_top (hx j) K), ex_shift (hx j)]

/-- A row with no plus infinity and not all minus infinity has the same logarithm of its softmax after every real shift. -/
theorem shift {x : ι → EReal} (hx : ∀ j, x j ≠ ⊤) (hb : ∃ j, x j ≠ ⊥) (K : ℝ) (i : ι) :
    x i + (-(K : EReal) - Ideal.log (∑ j, Ideal.exp (x j + -(K : EReal)))) = x i + ((-Real.log (∑ j, ex (x j)) : ℝ) : EReal) := by
  obtain ⟨k, hk⟩ := hb
  have hS : 0 < ∑ j, ex (x j) := Finset.sum_pos' (fun j _ => ex_nonneg _) ⟨k, Finset.mem_univ _, ex_pos hk⟩
  rw [sum_exp_shift hx, Ideal.log_coe, if_neg (not_le.mpr (mul_pos hS (Real.exp_pos _))), Real.log_mul hS.ne' (Real.exp_ne_zero _),
    Real.log_exp, ← EReal.coe_neg, ← EReal.coe_sub]
  congr 2
  ring

theorem cases3 (a : EReal) : a = ⊥ ∨ a = ⊤ ∨ ∃ r : ℝ, a = r := by
  induction a with
  | bot => exact .inl rfl
  | top => exact .inr (.inl rfl)
  | coe r => exact .inr (.inr ⟨r, rfl⟩)

/-- The row of `s + b` shifted by a real above the greatest `b`, and by its own greatest entry: the same. -/
theorem log_softmax_eq (s : ι → ℝ) (b : ι → EReal) (ρ : ℝ) (i : ι) :
    ((s i : EReal) + b i) + (-((ρ : EReal) + Finset.univ.sup b)
        - Ideal.log (∑ j, Ideal.exp (((s j : EReal) + b j) + -((ρ : EReal) + Finset.univ.sup b))))
      = ((s i : EReal) + b i) - Finset.univ.sup (fun j => (s j : EReal) + b j)
        - Ideal.log (∑ j, Ideal.exp (((s j : EReal) + b j) - Finset.univ.sup (fun j => (s j : EReal) + b j))) := by
  have hne : (Finset.univ : Finset ι).Nonempty := ⟨i, Finset.mem_univ _⟩
  obtain ⟨k, -, hk⟩ := Finset.exists_mem_eq_sup _ hne b
  obtain ⟨k', -, hk'⟩ := Finset.exists_mem_eq_sup _ hne (fun j => (s j : EReal) + b j)
  have hle : ∀ j, (s j : EReal) + b j ≤ (s k' : EReal) + b k' := fun j => hk' ▸ Finset.le_sup (f := fun j => (s j : EReal) + b j) (Finset.mem_univ j)
  have hleb : ∀ j, b j ≤ b k := fun j => hk ▸ Finset.le_sup (f := b) (Finset.mem_univ j)
  simp only [sub_eq_add_neg]
  rw [hk, hk']
  rcases cases3 (b k) with hB | hB | ⟨β, hB⟩
  · have hj : ∀ j, b j = ⊥ := fun j => le_bot_iff.mp ((hleb j).trans_eq hB)
    simp [hj]
  · have hM : (s k' : EReal) + b k' = ⊤ := top_le_iff.mp ((by rw [hB]; simp : (⊤ : EReal) ≤ (s k : EReal) + b k).trans (hle k))
    rw [hM, hB]; simp
  · have hx : ∀ j, (s j : EReal) + b j ≠ ⊤ := fun j => by
      have h := hleb j
      rcases cases3 (b j) with h' | h' | ⟨γ, h'⟩ <;> rw [h'] at h ⊢
      · simp
      · rw [hB] at h; simp at h
      · rw [← EReal.coe_add]; exact EReal.coe_ne_top _
    have hk0 : (s k : EReal) + b k ≠ ⊥ := by rw [hB, ← EReal.coe_add]; exact EReal.coe_ne_bot _
    rcases cases3 ((s k' : EReal) + b k') with hM | hM | ⟨μ, hM⟩
    · exact absurd (le_bot_iff.mp ((hle k).trans_eq hM)) hk0
    · exact absurd hM (hx k')
    · rw [hM, hB, ← EReal.coe_add]
      have e1 := shift hx ⟨k, hk0⟩ (ρ + β) i
      have e2 := shift hx ⟨k, hk0⟩ μ i
      rw [sub_eq_add_neg] at e1 e2
      rw [add_assoc _ (-(μ : EReal)), e1, e2]

end Cert.Lse

end
-- ==== Proof.EmbValue.lean ====
/-
  The embeddings' array of the first TensorCore call, element by element: the sixteen lanes of the row's group, the
  column of ones, the column of shifts, the zeros.
-/
module

public import proofs.«01_k».proof.Proof.LseBody
public import proofs.«01_k».proof.Proof.Softmax
public import Idealize.ShloMosaic.Lib.Pointwise

@[expose] public section

noncomputable section

namespace Cert.Lse

open Cert.KernelIdeal Cert.KernelIdeal.Gen

open Idealize.ShloMosaic

/-- The lanes taken: those of the row's group. -/
theorem embCols_apply (x : Vec Ideal S1024x128 .f32) (s : Vec Ideal S1024x1 .i32) (n : Fin 1024) (k : Fin 16) (g : Fin 8)
    (hg : s (ix2 n 0) = BitVec.ofNat 32 g.val) : embCols x s (ix2 n k) = x (ix2 n ⟨16 * g.val + k.val, by omega⟩) := by
  unfold embCols
  pointwise [k1_pay7, k1_pay6, k1_pay5, k1_pay4, k1_pay3]
  rw [hg]
  fin_cases g
  · exact congrArg (fun q => x (ix2 n q)) (Fin.ext (by simp))
  all_goals rfl

/-- The largest of a single row of any length, as the kernel takes it. -/
def largest2 {N : ℕ} (v : FVec Ideal ⟨2, ![1, N]⟩ .f32) (h : (⟨2, ![1, N]⟩ : Shape).Reduces [1] S1) : EReal :=
  extractAt ![0, 0] (shapeCast S1x1 (multiReduction .maximumf [1] S1 v 0xFF800000#32 h (.inl rfl) rfl) shapeCasts_S1_S1x1) inpos_S1x1_p0_0

/-- The same taken over two axes. -/
def largest3 {N : ℕ} (v : FVec Ideal ⟨3, ![1, 1, N]⟩ .f32) (h : (⟨3, ![1, 1, N]⟩ : Shape).Reduces [1, 2] S1) : EReal :=
  extractAt ![0, 0, 0] (shapeCast S1x1x1 (multiReduction .maximumf [1, 2] S1 v 0xFF800000#32 h (.inl rfl) rfl) shapeCasts_S1_S1x1x1) inpos_S1x1x1_p0_0_0

/-- The word of −∞ reads as −∞. -/
theorem ofBits_ninf : Ideal.ofBits .f32 0xFF800000#32 = ⊥ := by simp [Ideal.ofBits, Ideal.ieee]

/-- A fold of `max` from −∞ is the supremum. -/
theorem fold_max {ι : Type} (s : Finset ι) (f : ι → EReal) : s.fold max ⊥ f = s.sup f := by
  classical
  refine Finset.induction_on s rfl fun a t h e => ?_
  rw [Finset.fold_insert h, Finset.sup_insert, e]

/-- It is the supremum of the row. -/
theorem largest2_eq {N : ℕ} (v : FVec Ideal ⟨2, ![1, N]⟩ .f32) (h : (⟨2, ![1, N]⟩ : Shape).Reduces [1] S1) :
    largest2 v h = Finset.univ.sup fun j : Fin N => (v (ix2 0 j) : EReal) := by
  unfold largest2
  pointwise
  rw [ofBits_ninf, fold_max]

/-- And so is the other. -/
theorem largest3_eq {N : ℕ} (v : FVec Ideal ⟨3, ![1, 1, N]⟩ .f32) (h : (⟨3, ![1, 1, N]⟩ : Shape).Reduces [1, 2] S1) :
    largest3 v h = Finset.univ.sup fun j : Fin N => (v (ix3 0 0 j) : EReal) := by
  unfold largest3
  pointwise
  rw [ofBits_ninf, fold_max]
  refine le_antisymm (Finset.sup_le fun p _ => ?_) (Finset.sup_le fun j _ => ?_)
  · rw [Subsingleton.elim p.1 0]
    exact Finset.le_sup (f := fun j : Fin N => (v (ix3 0 0 j) : EReal)) (Finset.mem_univ p.2)
  · exact Finset.le_sup (f := fun p : Fin 1 × Fin N => (v (ix3 0 p.1 p.2) : EReal)) (Finset.mem_univ ((0 : Fin 1), j))

/-- The sums of squares down the columns, as a row. -/
def colNorms (w : FVec Ideal S16x102400 .f32) : FVec Ideal S1x102400 .f32 :=
  shapeCast S1x102400 (multiReduction .add [0] S102400 (mulf (shapeCast S16x102400 w shapeCasts_S16x102400_S16x102400) (shapeCast S16x102400 w shapeCasts_S16x102400_S16x102400))
    0x00000000#32 reduces_S16x102400_S102400 (.inl rfl) rfl) shapeCasts_S102400_S1x102400

/-- One of them. -/
theorem colNorms_apply (w : FVec Ideal S16x102400 .f32) (j : Fin 102400) :
    colNorms w (ix2 0 j) = ∑ k : Fin 16, (w (ix2 k j) : EReal) * w (ix2 k j) := by
  unfold colNorms
  pointwise

/-- The bias row as the kernel lays it out to take its largest. -/
def biasRow (b : FVec Ideal S1x100000 .f32) : FVec Ideal S1x1x100000 .f32 :=
  shapeCast S1x1x100000 (shapeCast S1x100000 b shapeCasts_S1x100000_S1x100000) shapeCasts_S1x100000_S1x1x100000

/-- An entry of it. -/
theorem biasRow_apply (b : FVec Ideal S1x100000 .f32) (j : Fin 100000) : biasRow b (ix3 0 0 j) = b (ix2 0 j) := by
  unfold biasRow
  pointwise

/-- The negated shifts from the embeddings, the largest column norm and the largest bias. -/
def shiftOf (e : FVec Ideal S1024x16 .f32) (M B : Ideal .f32) : FVec Ideal S1024x1 .f32 :=
  subf (broadcast S1024x1 (Scalar.ofBits .f32 0x00000000#32)) (addf (addf (mulf (sqrt (shapeCast S1024x1
    (multiReduction .add [1] S1024 (mulf e e) 0x00000000#32 reduces_S1024x16_S1024 (.inl rfl) rfl) shapeCasts_S1024_S1024x1))
    (broadcast S1024x1 (Scalar.sqrt M))) (broadcast S1024x1 B)) (broadcast S1024x1 (Scalar.ofBits .f32 0x3F800000#32)))

/-- One of them. -/
theorem shiftOf_apply (e : FVec Ideal S1024x16 .f32) (M B : Ideal .f32) (n : Fin 1024) :
    shiftOf e M B (ix2 n 0) = 0 - (Ideal.sqrt (∑ k : Fin 16, (e (ix2 n k) : EReal) * e (ix2 n k)) * Ideal.sqrt M + B + 1) := by
  unfold shiftOf
  pointwise
  rfl

/-- The negated shifts are those of the embeddings taken. -/
theorem negShift_eq (x : Vec Ideal S1024x128 .f32) (s : Vec Ideal S1024x1 .i32) (w : Vec Ideal S24x102400 .f32) (n : Fin 1024) :
    negShift x s w (ix2 n 0) = shiftOf (embCols x s)
      (largest2 (colNorms (View.ld w (Rect.unit (s := S24x102400) ![0, 0] S16x102400.size inb_S24x102400_S16x102400_0_0))) reduces_S1x102400_S1)
      (largest3 (biasRow (View.ld w (Rect.unit (s := S24x102400) ![16, 0] S1x100000.size inb_S24x102400_S1x100000_16_0))) reduces_S1x1x100000_S1) (ix2 n 0) := by
  have h6 : embCols x s = k1_pay6 (k1_pay3 x) (k1_pay4 s) (k1_pay5 x s) 7#32 := by
    unfold embCols k1_pay7
    funext y
    pointwise
  rw [h6]
  unfold negShift k1_pay10
  generalize hv : (k1_pay9 _ _ _ _ _ _ : FVec Ideal S1024x1 .f32) = v
  pointwise
  rw [← hv]
  rfl

/-- A sum of squares of reals is a real that is not negative. -/
theorem sum_sq_real {ι : Type} [Fintype ι] (f : ι → EReal) (h : ∀ k, ∃ r : ℝ, f k = r) : ∃ r : ℝ, ∑ k, f k * f k = r ∧ 0 ≤ r := by
  choose g hg using h
  refine ⟨∑ k, g k * g k, ?_, Finset.sum_nonneg fun k _ => mul_self_nonneg _⟩
  simp only [hg, ← EReal.coe_mul]
  exact coe_sum _

/-- Its square root is a real. -/
theorem sqrt_real {r : ℝ} (h : 0 ≤ r) : Ideal.sqrt (r : EReal) = (Real.sqrt r : EReal) := by
  show (if r < 0 then (⊥ : EReal) else (Real.sqrt r : EReal)) = _
  exact if_neg (not_lt.mpr h)

/-- The weights read out of their rows of the array. -/
theorem ld_weights (w : Vec Ideal S24x102400 .f32) (k : Fin 16) (j : Fin 102400) :
    View.ld w (Rect.unit (s := S24x102400) ![0, 0] S16x102400.size inb_S24x102400_S16x102400_0_0) (ix2 k j) = w (ix2 ⟨k.val, by omega⟩ j) := by
  pointwise

/-- The bias read out of its row. -/
theorem ld_bias (w : Vec Ideal S24x102400 .f32) (j : Fin 100000) :
    View.ld w (Rect.unit (s := S24x102400) ![16, 0] S1x100000.size inb_S24x102400_S1x100000_16_0) (ix2 0 j) = w (ix2 16 ⟨j.val, by omega⟩) := by
  pointwise

/-- The negated shift of a row of real embeddings is a real and the largest bias, negated. -/
theorem negShift_real (x : Vec Ideal S1024x128 .f32) (s : Vec Ideal S1024x1 .i32) (w : Vec Ideal S24x102400 .f32) (n : Fin 1024)
    (hE : ∀ k : Fin 16, ∃ r : ℝ, (embCols x s (ix2 n k) : EReal) = r)
    (hW : ∀ (k : Fin 16) (j : Fin 102400), ∃ r : ℝ, (w (ix2 ⟨k.val, by omega⟩ j) : EReal) = r) :
    ∃ ρ : ℝ, negShift x s w (ix2 n 0) = -((ρ : EReal) + Finset.univ.sup fun j : Fin 100000 => (w (ix2 16 ⟨j.val, by omega⟩) : EReal)) := by
  obtain ⟨a, ha, ha0⟩ := sum_sq_real _ hE
  obtain ⟨M, hM, hM0⟩ : ∃ M : ℝ, (Finset.univ.sup fun j : Fin 102400 => ∑ k : Fin 16, (w (ix2 ⟨k.val, by omega⟩ j) : EReal) * w (ix2 ⟨k.val, by omega⟩ j)) = (M : EReal) ∧ 0 ≤ M := by
    obtain ⟨j, -, hj⟩ := Finset.exists_mem_eq_sup (Finset.univ : Finset (Fin 102400)) ⟨0, Finset.mem_univ _⟩
      fun j : Fin 102400 => ∑ k : Fin 16, (w (ix2 ⟨k.val, by omega⟩ j) : EReal) * w (ix2 ⟨k.val, by omega⟩ j)
    rw [hj]
    exact sum_sq_real _ fun k => hW k j
  refine ⟨Real.sqrt a * Real.sqrt M + 1, ?_⟩
  have h1 : (fun j : Fin 102400 => (colNorms (View.ld w (Rect.unit (s := S24x102400) ![0, 0] S16x102400.size inb_S24x102400_S16x102400_0_0)) (ix2 0 j) : EReal))
      = fun j => ∑ k : Fin 16, (w (ix2 ⟨k.val, by omega⟩ j) : EReal) * w (ix2 ⟨k.val, by omega⟩ j) :=
    funext fun j => (colNorms_apply _ j).trans (Finset.sum_congr rfl fun k _ => by rw [ld_weights])
  have h2 : (fun j : Fin 100000 => (biasRow (View.ld w (Rect.unit (s := S24x102400) ![16, 0] S1x100000.size inb_S24x102400_S1x100000_16_0)) (ix3 0 0 j) : EReal))
      = fun j => (w (ix2 16 ⟨j.val, by omega⟩) : EReal) := funext fun j => (biasRow_apply _ j).trans (ld_bias w j)
  rw [negShift_eq, shiftOf_apply, largest2_eq, largest3_eq, ha, h1, h2, hM, sqrt_real ha0, sqrt_real hM0, ← EReal.coe_mul, sub_eq_add_neg, zero_add, add_right_comm, ← EReal.coe_one, ← EReal.coe_add]

end Cert.Lse

end
-- ==== Proof.AccValue.lean ====
/-
  The running sums of the first TensorCore call, lane by lane: each point adds the exponentials of its scores, and the
  lanes of the last sum to the total over every column.
-/
module

public import proofs.«01_k».proof.Proof.Lse
public import Idealize.ShloMosaic.Lib.Pointwise
public import Idealize.ShloMosaic.Lib.Writes

@[expose] public section

noncomputable section

namespace Cert.Lse

open Cert.KernelIdeal Cert.KernelIdeal.Gen

open Idealize.ShloMosaic

/-! ## One point -/

/-- A row of a block of scores at a number, nothing beyond its end. -/
def rowAt (v : FVec Ideal S1024x4096 .f32) (n : Fin 1024) (q : ℕ) : EReal := if h : q < 4096 then v (ix2 n ⟨q, h⟩) else 0

/-- Within the row it is the entry. -/
theorem rowAt_eq (v : FVec Ideal S1024x4096 .f32) (n : Fin 1024) (q : ℕ) (h : q < 4096) : (v (ix2 n ⟨q, h⟩) : EReal) = rowAt v n q := by
  rw [rowAt, dif_pos h]

/-- The later thirteen slices added. -/
theorem pay1_apply (v : FVec Ideal S1024x4096 .f32) (a : FVec Ideal S1024x128 .f32) (n : Fin 1024) (l : Fin 128) :
    k1_pay1 v a (ix2 n l) = (a (ix2 n l) : EReal) + ∑ k ∈ Finset.range 13, rowAt v n (128 * (19 + k) + l.val) := by
  pointwise [k1_pay1]
  simp only [rowAt_eq, Finset.sum_range_succ, Finset.sum_range_zero, zero_add, add_zero, Nat.reduceAdd, Nat.reduceMul, ← add_assoc]

/-- The first nineteen added. -/
theorem pay14_apply (e : Vec Ideal S1024x24 .f32) (w : Vec Ideal S24x4096 .f32) (a : Vec Ideal S1024x128 .f32) (n : Fin 1024) (l : Fin 128) :
    k1_pay14 e w a (ix2 n l) = (a (ix2 n l) : EReal) + ∑ k ∈ Finset.range 19, rowAt (k1_pay13 e w) n (128 * k + l.val) := by
  pointwise [k1_pay14]
  simp only [rowAt_eq, Finset.sum_range_succ, Finset.sum_range_zero, zero_add, add_zero, Nat.reduceAdd, Nat.reduceMul, ← add_assoc]

/-- An exponential of a score. -/
theorem pay13_apply (e : Vec Ideal S1024x24 .f32) (w : Vec Ideal S24x4096 .f32) (n : Fin 1024) (q : Fin 4096) :
    k1_pay13 e w (ix2 n q) = Ideal.exp (∑ k : Fin 24, (e (ix2 n k) : EReal) * w (ix2 k q)) := by
  pointwise [k1_pay13]

/-- The exponential of the score of column `q`, nothing beyond the last. -/
def term (e : Vec Ideal S1024x24 .f32) (w : Vec Ideal S24x102400 .f32) (n : Fin 1024) (q : ℕ) : EReal :=
  if h : q < 102400 then Ideal.exp (∑ k : Fin 24, (e (ix2 n k) : EReal) * w (ix2 k ⟨q, h⟩)) else 0

/-- Point `i`'s block of the weights. -/
theorem ld_point (i : grid1.Coords) (w : Vec Ideal S24x102400 .f32) (k : Fin 24) (q : Fin 4096) (h : 4096 * (i 0).val + q.val < 102400) :
    View.ld w (Rect.unit (s := S24x102400) (k1_off1 i) S24x4096.size (k1_off1_inb i)) (ix2 k q) = w (ix2 k ⟨4096 * (i 0).val + q.val, h⟩) := by
  refine congrArg w (funext fun a => Fin.ext ?_)
  have ho := k1_off1_eq i
  match a with
  | ⟨0, _⟩ => show k1_off1 i 0 + 1 * k.val = k.val; rw [ho]; simp
  | ⟨1, _⟩ => show k1_off1 i 1 + 1 * q.val = 4096 * (i 0).val + q.val; rw [ho]; simp

/-- One point adds its thirty-two terms of the lane. -/
theorem accStep_apply (i : grid1.Coords) (e : Vec Ideal S1024x24 .f32) (w : Vec Ideal S24x102400 .f32) (a : Vec Ideal S1024x128 .f32) (n : Fin 1024) (l : Fin 128) :
    accStep i e w a (ix2 n l) = (a (ix2 n l) : EReal) + ∑ k ∈ Finset.range 32, term e w n (4096 * (i 0).val + (128 * k + l.val)) := by
  have hi : (i 0).val < 25 := (i 0).isLt
  have hr : ∀ k < 32, rowAt (k1_pay13 e (View.ld w (Rect.unit (s := S24x102400) (k1_off1 i) S24x4096.size (k1_off1_inb i)))) n (128 * k + l.val)
      = term e w n (4096 * (i 0).val + (128 * k + l.val)) := fun k hk => by
    have h1 : 128 * k + l.val < 4096 := by omega
    rw [rowAt, dif_pos h1, pay13_apply, term, dif_pos (by omega)]
    exact congrArg Ideal.exp (Finset.sum_congr rfl fun q _ => by rw [ld_point i w q _ (by show 4096 * (i 0).val + (128 * k + l.val) < 102400; omega)])
  unfold accStep
  rw [pay1_apply, pay14_apply, add_assoc, show (32 : ℕ) = 19 + 13 from rfl, Finset.sum_range_add]
  refine congrArg _ (congrArg₂ _ (Finset.sum_congr rfl fun k hk => hr k ?_) (Finset.sum_congr rfl fun k hk => hr (19 + k) ?_))
  · have := Finset.mem_range.mp hk; omega
  · have := Finset.mem_range.mp hk; omega

/-! ## Every point -/

/-- The coordinate of a point is its number. -/
theorem coords_val : ∀ t : Fin cfg1.N, (grid1.coords t 0).val = t.val := by decide +kernel

/-- The running sums before point `m`. -/
theorem acc_apply (e : Vec Ideal S1024x24 .f32) (w : Vec Ideal S24x102400 .f32) (n : Fin 1024) (l : Fin 128) (m : ℕ) (hm : m ≤ 25) :
    acc e w m (ix2 n l) = ∑ t ∈ Finset.range m, ∑ k ∈ Finset.range 32, term e w n (4096 * t + (128 * k + l.val)) := by
  induction m with
  | zero =>
    rw [acc_zero, Finset.sum_range_zero]
    pointwise [k1_pay12]
  | succ m ih =>
    have h := acc_succ e w ⟨m, show m < 25 by omega⟩
    rw [show (⟨m, show m < 25 by omega⟩ : Fin cfg1.N).val = m from rfl] at h
    rw [h, accStep_apply, coords_val, Finset.sum_range_succ (n := m), ih (by omega)]

/-- A sum over a product of lengths, block by block. -/
theorem sum_blocks (f : ℕ → EReal) (a b : ℕ) : ∑ q ∈ Finset.range (b * a), f q = ∑ t ∈ Finset.range a, ∑ r ∈ Finset.range b, f (b * t + r) := by
  induction a with
  | zero => simp
  | succ a ih => rw [Nat.mul_succ, Finset.sum_range_add, ih, Finset.sum_range_succ]

/-- The lanes of the last running sums add up to the total over every column. -/
theorem acc_total (e : Vec Ideal S1024x24 .f32) (w : Vec Ideal S24x102400 .f32) (n : Fin 1024) :
    ∑ l : Fin 128, (acc e w 25 (ix2 n l) : EReal) = ∑ q ∈ Finset.range 102400, term e w n q := by
  simp only [acc_apply e w n _ 25 (le_refl _)]
  rw [show (102400 : ℕ) = 4096 * 25 from rfl, sum_blocks, Finset.sum_comm]
  refine Finset.sum_congr rfl fun t _ => ?_
  rw [show (4096 : ℕ) = 128 * 32 from rfl, sum_blocks (fun r => term e w n (128 * 32 * t + r)), Finset.sum_comm]
  refine Finset.sum_congr rfl fun k _ => ?_
  exact (Finset.sum_range fun l => term e w n (128 * 32 * t + (128 * k + l))).symm

end Cert.Lse

end
-- ==== Proof.ColValue.lean ====
/-
  The embeddings' array read at an index, as the first point lays it out and as the last leaves it; the last takes the
  logarithm of the total off the column of shifts and keeps the rest.
-/
module

public import proofs.«01_k».proof.Proof.EmbValue
public import proofs.«01_k».proof.Proof.AccValue

@[expose] public section

noncomputable section

namespace Cert.Lse

open Cert.KernelIdeal Cert.KernelIdeal.Gen

open Idealize.ShloMosaic

/-- Under a write of the columns from `o` on, the array holds what was written. -/
theorem canon_cols {R C W o : ℕ} (inb : ∀ a, (![0, o] : Fin 2 → ℕ) a + (![R, W] : Fin 2 → ℕ) a ≤ (⟨2, ![R, C]⟩ : Shape).size a)
    (v : (⟨2, ![R, W]⟩ : Shape).Idx → Elt Ideal .f32) (L : List (View.Piece (Elt Ideal) ⟨2, ![R, C]⟩ .f32)) (n : Fin R) (q : Fin C) (k : Fin W) (h : q.val = o + k.val) :
    View.canon (⟨Rect.unit (s := ⟨2, ![R, C]⟩) ![0, o] ![R, W] inb, v⟩ :: L) (ix2 n q) = v (ix2 n k) := by
  refine (congrArg _ (funext fun a => Fin.ext ?_)).trans (View.canon_cons_emb (Rect.unit (s := ⟨2, ![R, C]⟩) ![0, o] ![R, W] inb) v L (ix2 n k))
  match a with
  | ⟨0, _⟩ => show n.val = 0 + 1 * n.val; omega
  | ⟨1, _⟩ => show q.val = o + 1 * k.val; omega

/-- Off those columns it holds what it held. -/
theorem canon_off {R C W o : ℕ} (inb : ∀ a, (![0, o] : Fin 2 → ℕ) a + (![R, W] : Fin 2 → ℕ) a ≤ (⟨2, ![R, C]⟩ : Shape).size a)
    (v : (⟨2, ![R, W]⟩ : Shape).Idx → Elt Ideal .f32) (L : List (View.Piece (Elt Ideal) ⟨2, ![R, C]⟩ .f32)) (n : Fin R) (q : Fin C) (h : q.val < o ∨ o + W ≤ q.val) :
    View.canon (⟨Rect.unit (s := ⟨2, ![R, C]⟩) ![0, o] ![R, W] inb, v⟩ :: L) (ix2 n q) = View.canon L (ix2 n q) := by
  exact View.canon_cons_of_not_mem _ _ (Rect.not_mem_set_of_axis _ _ 1 o W rfl rfl rfl h)

variable (x : Vec Ideal S1024x128 .f32) (s : Vec Ideal S1024x1 .i32) (w : Vec Ideal S24x102400 .f32) (n : Fin 1024)

/-- The first sixteen columns are the embeddings. -/
theorem embs_emb (k : Fin 16) : embs x s w (ix2 n ⟨k.val, by omega⟩) = embCols x s (ix2 n k) := by
  unfold embs
  refine (canon_off _ _ _ n _ (.inl ?_)).trans <| (canon_off _ _ _ n _ (.inl ?_)).trans <| (canon_off _ _ _ n _ (.inl ?_)).trans (canon_cols _ _ _ n _ k ?_)
  · show k.val < 18; omega
  · show k.val < 17; omega
  · show k.val < 16; omega
  · show k.val = 0 + k.val; omega

/-- The seventeenth is of ones. -/
theorem embs_one : embs x s w (ix2 n 16) = (1 : EReal) := by
  unfold embs
  refine (canon_off _ _ _ n _ (.inl ?_)).trans <| (canon_off _ _ _ n _ (.inl ?_)).trans ((canon_cols _ _ _ n _ 0 ?_).trans ?_)
  · decide
  · decide
  · decide
  · pointwise [k1_pay8]

/-- The eighteenth is of the negated shifts. -/
theorem embs_shift : embs x s w (ix2 n 17) = negShift x s w (ix2 n 0) := by
  unfold embs
  refine (canon_off _ _ _ n _ (.inl ?_)).trans (canon_cols _ _ _ n _ 0 ?_)
  · decide
  · decide

/-- The rest are of zeros. -/
theorem embs_zero (k : Fin 6) : embs x s w (ix2 n ⟨18 + k.val, by omega⟩) = (0 : EReal) := by
  unfold embs
  refine (canon_cols _ _ _ n _ k ?_).trans ?_
  · rfl
  · pointwise [k1_pay11]

variable (e : Vec Ideal S1024x24 .f32) (a : Vec Ideal S1024x128 .f32)

/-- The last point keeps every column but the shifts', -/
theorem embs2_keep (k : Fin 24) (h : k ≠ 17) : embs2 e a (ix2 n k) = e (ix2 n k) := by
  unfold embs2
  refine (canon_off _ _ _ n k ?_).trans (canon_cols _ _ _ n k k ?_)
  · have : k.val ≠ 17 := fun h' => h (Fin.ext h')
    omega
  · omega

/-- and takes the logarithm of the total off that one. -/
theorem embs2_shift : embs2 e a (ix2 n 17) = (e (ix2 n 17) : EReal) - Ideal.log (∑ l : Fin 128, (a (ix2 n l) : EReal)) := by
  unfold embs2
  refine (canon_cols _ _ _ n _ 0 ?_).trans ?_
  · decide
  · pointwise [k1_pay2]

end Cert.Lse

end
-- ==== Proof.ArrValue.lean ====
/-
  The TensorCore calls' arrays at an index: the first call's windows stage whole arrays, so what it leaves is what its last
  point leaves in the block; a score is the product of a row of the embeddings' array and a column of the weights.
-/
module

public import proofs.«01_k».proof.Proof.Main
public import proofs.«01_k».proof.Proof.ColValue
public import Idealize.ShloMosaic.Lib.Pipeline.ValueKit
public import Idealize.ShloMosaic.Lib.Pipeline.Covers
public import Idealize.ShloMosaic.Lib.Pointwise

@[expose] public section

noncomputable section

namespace Cert.Lse

open Cert.KernelIdeal Cert.KernelIdeal.Gen

open Idealize.ShloMosaic
open Idealize.ShloMosaic.TcCoe
open Idealize.ShloMosaic.Pipeline (Dat)

variable {F : FTy → Type} [FloatOps F] [∀ e, Nonempty (Elt F e)]

variable (V : Dev nD → Valuation τ sig (Elt F))

theorem idx1_0 : ∀ a, win1_0.index t₀ a = 0 := by decide +kernel
theorem idx1_1 : ∀ a, win1_1.index t₀ a = 0 := by decide +kernel
theorem idx1_2 : ∀ a, win1_2.index t₀ a = 0 := by decide +kernel
theorem idx2_0 : ∀ (t : Fin cfg2.N) (a), win2_0.index t a = 0 := by decide +kernel
theorem idx2_1 : ∀ t : Fin cfg2.N, win2_1.index t 0 = 0 ∧ win2_1.index t 1 = t.val := by decide +kernel
theorem idx2_2 : ∀ t : Fin cfg2.N, win2_2.index t 0 = 0 ∧ win2_2.index t 1 = t.val := by decide +kernel

/-- The first call stages the gathered rows whole, -/
theorem emb1_0 (y : S1024x128.Idx) : ((cfg1.win 0).blk t₀).view.emb y = y := by
  funext a; apply Fin.ext
  blk_simp
  rw [idx1_0, Nat.zero_mul, Nat.zero_add]
/-- the lane groups whole, -/
theorem emb1_1 (y : S1024x1.Idx) : ((cfg1.win 1).blk t₀).view.emb y = y := by
  funext a; apply Fin.ext
  blk_simp
  rw [idx1_1, Nat.zero_mul, Nat.zero_add]
/-- and the weights whole. -/
theorem emb1_2 (y : S24x102400.Idx) : ((cfg1.win 2).blk t₀).view.emb y = y := by
  funext a; apply Fin.ext
  blk_simp
  rw [idx1_2, Nat.zero_mul, Nat.zero_add]
/-- The second stages the embeddings' array whole, -/
theorem emb2_0 (t : Fin cfg2.N) (y : S1024x24.Idx) : ((cfg2.win 0).blk t).view.emb y = y := by
  funext a; apply Fin.ext
  blk_simp
  rw [idx2_0, Nat.zero_mul, Nat.zero_add]

/-- and of the weights the `2048` columns of its point. -/
theorem emb2_1 (t : Fin cfg2.N) (k : Fin 24) (q : Fin 2048) (j : Fin 102400) (h : j.val = 2048 * t.val + q.val) :
    ((cfg2.win 1).blk t).view.emb (ix2 k q) = ix2 k j := by
  funext a; apply Fin.ext
  blk_simp
  match a with
  | ⟨0, _⟩ => exact (congrArg (fun z => z * 24 + k.val) (idx2_1 t).1).trans (by show 0 * 24 + k.val = k.val; omega)
  | ⟨1, _⟩ => exact (congrArg (fun z => z * 2048 + q.val) (idx2_1 t).2).trans (by show _ = j.val; omega)

/-- The gathered rows as staged are the array. -/
theorem rowsBlk_eq (c : Dev nD) : rowsBlk V c = V c main_v6 := by
  funext y
  unfold rowsBlk
  rw [View.read_apply, emb1_0]
  rfl

/-- So are the lane groups, -/
theorem groupBlk_eq (c : Dev nD) : groupBlk V c = V c main_v5 := by
  funext y
  unfold groupBlk
  rw [View.read_apply, emb1_1]
  rfl

/-- and the weights. -/
theorem weightsBlk_eq (c : Dev nD) : weightsBlk V c = V c main_v18 := by
  funext y
  unfold weightsBlk
  rw [View.read_apply, emb1_2]
  rfl

/-- The second call stages the embeddings' array as it is, -/
theorem embBlk_eq (c : Dev nD) (t : Fin cfg2.N) : embBlk V c t = V c main_v19 := by
  funext y
  unfold embBlk
  rw [View.read_apply, emb2_0]
  rfl

/-- and the weights' columns from `2048 t` on. -/
theorem wBlk_apply (c : Dev nD) (t : Fin cfg2.N) (k : Fin 24) (q : Fin 2048) (j : Fin 102400) (h : j.val = 2048 * t.val + q.val) :
    wBlk V c t (ix2 k q) = (V c main_v18 : Vec F S24x102400 .f32) (ix2 k j) := by
  unfold wBlk
  rw [View.read_apply, emb2_1 t k q j h]
  rfl

/-- The first call's output is written back once, by its last point, whole. -/
theorem whole3 : (cfg1.win 3).WholeAt ⟨24, by decide⟩ := by decide +kernel

/-- The first call's output, at what it leaves in its block. -/
theorem finished_of (c : Dev nD) (G : Buf (Elt F) ((c : Thread nD τ).loc main_v19)) (t : Fin cfg1.N) (h : (cfg1.win 3).WholeAt t)
    (x : Vec F S1024x24 .f32) (hx : finBlk V c = x)
    (hG : ∀ j : S1024x24.Idx, x j = G j) : (lseDat V c).arrAt 3 cfg1.N = G := by
  refine (lseDat V c).arrAt_eq_of_after_last 3 t h G (fun j => ?_) (Memref.isWhole_whole _)
  rw [lse_after_3, hx]
  exact (cast_eq _ _).trans (hG j)

/-- The first call leaves what its last point leaves. -/
theorem finished_eq (c : Dev nD) : finished V c = finBlk V c :=
  finished_of V c (finBlk V c) _ whole3 (finBlk V c) rfl fun _ => rfl

section Scores

variable (V : Dev nD → Valuation τ sig (Elt Ideal))

/-- A block of the scores is a product. -/
theorem k2_pay1_apply (e : Vec Ideal S1024x24 .f32) (w : Vec Ideal S24x2048 .f32) (n : Fin 1024) (q : Fin 2048) :
    k2_pay1 e w (ix2 n q) = ∑ k : Fin 24, e (ix2 n k) * w (ix2 k q) := by
  pointwise [k2_pay1]

/-- The products of the rows and the columns. -/
def products (e : Vec Ideal S1024x24 .f32) (w : Vec Ideal S24x102400 .f32) : Vec Ideal S1024x100000 .f32 := fun i =>
  ∑ k : Fin 24, e (ix2 (i 0) k) * w (ix2 k ⟨(i 1).val, lt_of_lt_of_le (i 1).isLt (by decide)⟩)

theorem out_after_2 (c : Dev nD) (t : Fin cfg2.N) : (outDat V c).after 2 t = k2_pay1 (embBlk V c t) (wBlk V c t) := by
  dsimp only [outDat]

theorem covers2 : (cfg2.win 2).Covers :=
  (cfg2.win 2).covers_of_indexMap_surj rfl (by decide) fun β =>
    ⟨fun i => ⟨(β 1).val, lt_of_lt_of_eq (β 1).isLt (by obtain rfl : i = 0 := Subsingleton.elim (α := Fin 1) _ _; decide)⟩, fun a => by
      match a with
      | ⟨0, _⟩ => have h : (β 0).val < 1 := (β 0).isLt; show 0 = (β 0).val; omega
      | ⟨1, _⟩ =>
        have h : (β 1).val < 49 := (β 1).isLt
        show (BitVec.ofNat 32 (β 1).val).toNat = (β 1).val
        rw [BitVec.toNat_ofNat]; omega⟩

theorem scores_of (c : Dev nD) (G : Buf (Elt Ideal) ((c : Thread nD τ).loc main_v20)) (x : Fin cfg2.N → Vec Ideal S1024x2048 .f32)
    (hx : ∀ t, k2_pay1 (embBlk V c t) (wBlk V c t) = x t)
    (hG : ∀ (t : Fin cfg2.N) (n : Fin 1024) (q : Fin 2048) (j : Fin 100000), j.val = 2048 * t.val + q.val → x t (ix2 n q) = G (ix2 n j)) :
    scores V c = G := by
  unfold scores
  refine (outDat V c).arrAt_eq_of_covers 2 G covers2 (fun t _ y => ?_) (Memref.isWhole_whole _)
  rw [out_after_2, hx]
  refine (cast_eq _ _).trans ?_
  have h0 : (((cfg2.win 2).blk t).view.emb y 0 : ℕ) = (y 0).val := by
    blk_simp
    exact (congrArg (fun z => z * 1024 + (y 0).val) (idx2_2 t).1).trans (by show 0 * 1024 + (y 0).val = (y 0).val; omega)
  have h1 : (((cfg2.win 2).blk t).view.emb y 1 : ℕ) = 2048 * t.val + (y 1).val := by
    blk_simp
    exact (congrArg (fun z => z * 2048 + (y 1).val) (idx2_2 t).2).trans (by show t.val * 2048 + (y 1).val = _; omega)
  have hy0 : (y 0).val < 1024 := lt_of_lt_of_le (y 0).isLt ((cfg2.win 2).xsize_le (cfg2.grid.coords t) 0)
  have hy1 : (y 1).val < 2048 := lt_of_lt_of_le (y 1).isLt ((cfg2.win 2).xsize_le (cfg2.grid.coords t) 1)
  have hj : (((cfg2.win 2).blk t).view.emb y 1 : ℕ) < 100000 := (((cfg2.win 2).blk t).view.emb y 1).isLt
  refine (congrArg (x t) ?_).trans ((hG t ⟨(y 0).val, hy0⟩ ⟨(y 1).val, hy1⟩ ⟨_, hj⟩ h1).trans (congrArg G ?_))
  · funext a
    match a with
    | ⟨0, _⟩ => rfl
    | ⟨1, _⟩ => rfl
  · funext a
    match a with
    | ⟨0, _⟩ => exact Fin.ext h0.symm
    | ⟨1, _⟩ => rfl

/-- The second call leaves the products of the embeddings' rows and the weights' columns. -/
theorem scores_eq (c : Dev nD) : scores V c = products (V c main_v19) (V c main_v18) := by
  refine scores_of V c (products (V c main_v19) (V c main_v18)) _ (fun _ => rfl) fun t n q j h => ?_
  rw [k2_pay1_apply, embBlk_eq]
  refine Finset.sum_congr rfl fun k _ => ?_
  rw [wBlk_apply V c t k q ⟨j.val, lt_of_lt_of_le j.isLt (by decide)⟩ h]
  rfl

end Scores

end Cert.Lse

end
-- ==== Proof.RefValue.lean ====
/-
  The reference's result, element by element: the embedding of each index, its product with the weights, the bias added,
  and the row's log-softmax as the reference takes it (the maximum taken off first).
-/
module

public import proofs.«01_k».proof.Defs
public import proofs.«01_k».proof.Proof.Gen.ReferenceIdeal.Run
public import Idealize.ShloMosaic.Lib.Pointwise
public import Idealize.ShloMosaic.Lib.Routing.Ops
public import Idealize.ShloMosaic.Lib.ReduceAll
public import Idealize.ShloMosaic.Lib.WordArith
public import Idealize.ShloMosaic.Lib.IdealHost

@[expose] public section

noncomputable section

namespace Cert.Lse.Ref

open Cert.ReferenceIdeal Cert.ReferenceIdeal.Gen

open Idealize.ShloMosaic
open Idealize.ShloMosaic.TcCoe

/-- The indices as a column, a negative one counted from the end. -/
def column (i : IVec S1024 32) : IVec S1024x1 32 :=
  broadcastInDim S1024x1 ![0] bcast_S1024_S1024x1_0 (select (cmpi .slt i (broadcastInDim S1024 ![] bcast_S_S1024 (constantI S_ 32 0#32))) (addi i (broadcastInDim S1024 ![] bcast_S_S1024 (constantI S_ 32 100000#32))) i)

/-- The rows taken: the table's row where the index is in range. -/
def taken (i : IVec S1024 32) (x : FVec Ideal S100000x16 .f32) : FVec Ideal S1024x16 .f32 :=
  select (broadcastInDim S1024x16 ![0] bcast_S1024_S1024x16_0 (Host.reduce IntOp.andi (andi (cmpi .sge (column i) (broadcastInDim S1024x1 ![] bcast_S_S1024x1 (constantI S_ 32 0#32))) (cmpi .sle (column i) (broadcastInDim S1024x1 ![0, 1] bcast_S1x1_S1024x1_0_1 (broadcastInDim S1x1 ![1] bcast_S1_S1x1_1 (constantI S1 32 99999#32))))) (constantI S_ 1 1#1) reducesTo_S1024x1_S1024_d1 h_S_)) (Host.gather gather_S100000x16_S1024x1_S1024x16_1_0_n_n_0_1_116 x (column i)) (broadcastInDim S1024x16 ![] bcast_S_S1024x16 (constant S_ .f32 0x7FC00000#32))

/-- The scores: the rows against the weights, the bias added. -/
def logits (e : FVec Ideal S1024x16 .f32) (w : FVec Ideal S100000x16 .f32) (b : FVec Ideal S100000 .f32) : FVec Ideal S1024x100000 .f32 :=
  addf (Host.dotGeneral dot_S1024x16_S16x100000_S1024x100000_1_0_0_1_n_n none e (transpose S16x100000 [1, 0] w transposes_S100000x16_S16x100000_1_0)) (broadcastInDim S1024x100000 ![0, 1] bcast_S1x100000_S1024x100000_0_1 (broadcastInDim S1x100000 ![1] bcast_S100000_S1x100000_1 b))

/-- The largest of each row. -/
def rowMax (o : FVec Ideal S1024x100000 .f32) : FVec Ideal S1024 .f32 :=
  maximumf (broadcastInDim S1024 ![] bcast_S_S1024 (constant S_ .f32 0xFF800000#32)) (Host.reduce FloatOps.maximumf o (constant S_ .f32 0xFF800000#32) reducesTo_S1024x100000_S1024_d1 h_S_)

/-- Each row with its largest taken off. -/
def shifted (o : FVec Ideal S1024x100000 .f32) : FVec Ideal S1024x100000 .f32 :=
  subf o (broadcastInDim S1024x100000 ![0, 1] bcast_S1024x1_S1024x100000_0_1 (broadcastInDim S1024x1 ![0] bcast_S1024_S1024x1_0 (rowMax o)))

/-- The total of each row's exponentials. -/
def total (o : FVec Ideal S1024x100000 .f32) : FVec Ideal S1024 .f32 :=
  Host.reduceAdd (Host.exp o) (constant S_ .f32 0x00000000#32) reducesTo_S1024x100000_S1024_d1 h_S_

/-- The log-softmax of each row. -/
def softmax (o : FVec Ideal S1024x100000 .f32) : FVec Ideal S1024x100000 .f32 :=
  subf (shifted o) (broadcastInDim S1024x100000 ![0, 1] bcast_S1024x1_S1024x100000_0_1 (Host.log (broadcastInDim S1024x1 ![0] bcast_S1024_S1024x1_0 (total (shifted o)))))

/-- The reference's result is those in turn. -/
theorem res_eq (m : (ℓ : Loc nD τ sig) → Buf (Elt Ideal) ℓ) (c : Dev nD) :
    Value.res_main_v6 (F := Ideal) m c = softmax (logits (taken (m ((c.tc : Thread nD τ).loc main_arg0)) (m ((c.tc : Thread nD τ).loc main_arg1)))
      (m ((c.tc : Thread nD τ).loc main_arg2)) (m ((c.tc : Thread nD τ).loc main_arg3))) := rfl

/-- An index in range is its own place in the column. -/
theorem column_apply (i : IVec S1024 32) (n : Fin 1024) (h : (i (ix1 n)).toNat < 100000) : column i (ix2 n 0) = i (ix1 n) := by
  unfold column
  pointwise
  have hs : IntOp.cmpi .slt (i (ix1 n)) 0#32 = 0#1 := by
    simp only [IntOp.cmpi, BitVec.slt_eq_decide, BitVec.toInt_eq_toNat_cond, BitVec.toNat_ofNat, Nat.reducePow, Nat.reduceMod]
    rw [decide_eq_false (by omega)]; rfl
  rw [hs]
  rfl

/-- The row taken at an index in range is the table's. -/
theorem taken_apply (i : IVec S1024 32) (x : FVec Ideal S100000x16 .f32) (n : Fin 1024) (k : Fin 16) (h : ∀ n, (i (ix1 n)).toNat < 100000) :
    taken i x (ix2 n k) = x (ix2 ⟨(i (ix1 n)).toNat, h n⟩ k) := by
  unfold taken
  pointwise
  have hm : Finset.fold IntOp.andi (1#1) (fun x => IntOp.andi (IntOp.cmpi .sge (column i (ix2 n x)) 0#32) (IntOp.cmpi .sle (column i (ix2 n x)) 99999#32))
      (Finset.univ : Finset (Fin 1)) = 1#1 := by
    rw [Finset.univ_unique, Finset.fold_singleton, show (default : Fin 1) = 0 from rfl, column_apply i n (h n)]
    have := h n
    simp only [IntOp.cmpi, BitVec.sle_eq_decide, BitVec.toInt_eq_toNat_cond, BitVec.toNat_ofNat, Nat.reducePow, Nat.reduceMod]
    rw [decide_eq_true (by omega), decide_eq_true (by omega)]; decide
  rw [hm]
  refine (show Scalar.select (1#1) _ _ = _ from rfl).trans ?_
  have hg := Routing.gather_row gather_S100000x16_S1024x1_S1024x16_1_0_n_n_0_1_116 rfl rfl rfl rfl rfl x (column i) n k ⟨(i (ix1 n)).toNat, h n⟩
    ((column_apply i n (h n)).trans (by simp)) (by decide)
  exact hg

/-- A score. -/
theorem logits_apply (e : FVec Ideal S1024x16 .f32) (w : FVec Ideal S100000x16 .f32) (b : FVec Ideal S100000 .f32) (n : Fin 1024) (c : Fin 100000) :
    logits e w b (ix2 n c) = (∑ k : Fin 16, (e (ix2 n k) : EReal) * w (ix2 c k)) + b (ix1 c) := by
  unfold logits
  pointwise

/-- The word of −∞ reads as −∞. -/
theorem ofBits_bot : Ideal.ofBits .f32 0xFF800000#32 = ⊥ := by simp [Ideal.ofBits, Ideal.ieee]

/-- A fold of `max` from −∞ is the supremum. -/
theorem fold_max_eq_sup {ι : Type} (s : Finset ι) (f : ι → EReal) : s.fold max ⊥ f = s.sup f := by
  classical
  refine Finset.induction_on s rfl fun a t h e => ?_
  rw [Finset.fold_insert h, Finset.sup_insert, e]

/-- The host's largest along the rows of a matrix of any extents. -/
theorem max_row {N C : ℕ} (x : FVec Ideal ⟨2, ![N, C]⟩ .f32) (h : (⟨2, ![N, C]⟩ : Shape).ReducesTo [1] ⟨1, ![N]⟩) (hu : 0 < S_.numel) (n : Fin N) :
    Host.reduce (FloatOps.maximumf (F := Ideal) (φ := .f32)) x (constant S_ .f32 0xFF800000#32) h hu (ix1 n) = Finset.univ.sup fun j : Fin C => (x (ix2 n j) : EReal) := by
  pointwise
  rw [ofBits_bot]
  exact fold_max_eq_sup _ _

/-- The maximum with −∞ is the other. -/
theorem max_const (x : FVec Ideal S1024 .f32) (n : Fin 1024) :
    maximumf (broadcastInDim S1024 ![] bcast_S_S1024 (constant S_ .f32 0xFF800000#32)) x (ix1 n) = x (ix1 n) := by
  pointwise
  rw [ofBits_bot]
  exact max_eq_right bot_le

/-- The largest of a row. -/
theorem rowMax_apply (o : FVec Ideal S1024x100000 .f32) (n : Fin 1024) :
    rowMax o (ix1 n) = Finset.univ.sup fun j : Fin 100000 => (o (ix2 n j) : EReal) :=
  (max_const _ n).trans (max_row o _ _ n)

/-- A score with its row's largest taken off. -/
theorem shifted_apply (o : FVec Ideal S1024x100000 .f32) (n : Fin 1024) (c : Fin 100000) :
    shifted o (ix2 n c) = (o (ix2 n c) : EReal) - Finset.univ.sup fun j : Fin 100000 => (o (ix2 n j) : EReal) := by
  rw [← rowMax_apply]
  unfold shifted
  pointwise

/-- The host's sum along the rows of a matrix of any extents. -/
theorem sum_row {N C : ℕ} (x : FVec Ideal ⟨2, ![N, C]⟩ .f32) (h : (⟨2, ![N, C]⟩ : Shape).ReducesTo [1] ⟨1, ![N]⟩) (hu : 0 < S_.numel) (n : Fin N) :
    Host.reduceAdd x (constant S_ .f32 0x00000000#32) h hu (ix1 n) = ∑ j : Fin C, (x (ix2 n j) : EReal) := by
  pointwise

/-- The total of a row's exponentials. -/
theorem total_apply (o : FVec Ideal S1024x100000 .f32) (n : Fin 1024) :
    total o (ix1 n) = ∑ j : Fin 100000, Ideal.exp (o (ix2 n j) : EReal) := by
  exact sum_row (Host.exp o) _ _ n

/-- A log-probability. -/
theorem softmax_apply (o : FVec Ideal S1024x100000 .f32) (n : Fin 1024) (c : Fin 100000) :
    softmax o (ix2 n c) = ((o (ix2 n c) : EReal) - Finset.univ.sup fun j : Fin 100000 => (o (ix2 n j) : EReal))
      - Ideal.log (∑ j : Fin 100000, Ideal.exp ((o (ix2 n j) : EReal) - Finset.univ.sup fun j : Fin 100000 => (o (ix2 n j) : EReal))) := by
  have e : (fun j : Fin 100000 => Ideal.exp ((o (ix2 n j) : EReal) - Finset.univ.sup fun j : Fin 100000 => (o (ix2 n j) : EReal)))
      = fun j => Ideal.exp (shifted o (ix2 n j)) := funext fun j => by rw [shifted_apply]
  rw [e, ← shifted_apply, ← total_apply]
  unfold softmax
  pointwise

end Cert.Lse.Ref

end
-- ==== Proof.HostValue.lean ====
/-
  The host's operations read at an index: the augmented weights (sixteen rows of weights, the bias, ones, zeros; past the
  last column the bias is minus infinity and the rest zero), the place of each index in its packed row, and the packed rows
  gathered, which hold at that place the row of the table that the index names.
-/
module

public import proofs.«01_k».proof.Proof.Run
public import proofs.«01_k».proof.Proof.RefValue
public import Idealize.ShloMosaic.Lib.Pointwise
public import Idealize.ShloMosaic.Lib.Routing.OpsPair
public import Idealize.ShloMosaic.Lib.StableHlo.ReadAt

@[expose] public section

noncomputable section

namespace Cert.Lse

open Cert.KernelIdeal Cert.KernelIdeal.Gen

open Idealize.ShloMosaic
open Idealize.ShloMosaic.TcCoe

/-- The place the one update is written to. -/
def place : IVec S2 32 := concatenate S2 0 [⟨S1, broadcastInDim S1 ![] bcast_S_S1 (constantI S_ 32 16#32)⟩, ⟨S1, broadcastInDim S1 ![] bcast_S_S1 (constantI S_ 32 0#32)⟩] concatenates_S1_S1_S2_d0

/-- The column every column past the last is: minus infinity in the bias's row, zero elsewhere. -/
def padCol : Vec Ideal S24x1 .f32 :=
  Host.scatter scatter_S24x1_S2_S__n_01_01_0 (fun _ b => b) (broadcastInDim S24x1 ![] bcast_S_S24x1 (constant (F := Ideal) S_ .f32 0x00000000#32)) place
    (constant (F := Ideal) S_ .f32 0xFF800000#32)

/-- The weights' columns, each with its bias, a one and six zeros. -/
def body (w : Vec Ideal S100000x16 .f32) (b : Vec Ideal S100000 .f32) : Vec Ideal S24x100000 .f32 :=
  concatenate S24x100000 0 [⟨S16x100000, transpose S16x100000 [1, 0] w transposes_S100000x16_S16x100000_1_0⟩,
    ⟨S1x100000, shapeCast S1x100000 b shapeCasts_S100000_S1x100000⟩,
    ⟨S1x100000, broadcastInDim S1x100000 ![] bcast_S_S1x100000 (constant (F := Ideal) S_ .f32 0x3F800000#32)⟩,
    ⟨S6x100000, broadcastInDim S6x100000 ![] bcast_S_S6x100000 (constant (F := Ideal) S_ .f32 0x00000000#32)⟩] concatenates_S16x100000_S1x100000_S1x100000_S6x100000_S24x100000_d0

/-- The augmented weights. -/
def augmented (w : Vec Ideal S100000x16 .f32) (b : Vec Ideal S100000 .f32) : Vec Ideal S24x102400 .f32 :=
  concatenate S24x102400 1 [⟨S24x100000, body w b⟩, ⟨S24x2400, broadcastInDim S24x2400 ![0, 1] bcast_S24x1_S24x2400_0_1 padCol⟩] concatenates_S24x100000_S24x2400_S24x102400_d1

/-- The operations after the gather leave the augmented weights. -/
theorem after_weights (U : Valuation τ sig (Elt Ideal)) : StableHlo.after opsAfter U main_v18 = augmented (U main_arg2) (U main_arg3) := by
  rfl

/-- The update goes to the bias's row. -/
theorem place_idx (n : Fin S_.numel) : scatter_S24x1_S2_S__n_01_01_0.resultIdx? (S_.rowMajor.symm n) place = some (ix2 16 0) := by
  obtain rfl : n = ⟨0, by decide⟩ := Subsingleton.elim (α := Fin 1) _ _
  rw [Routing.resultIdx?_eq_some]
  decide +kernel

/-- An update of one element, written at the bias's row. -/
theorem scatter_at (x : Vec Ideal S24x1 .f32) (u : Vec Ideal S_ .f32) (k : Fin 24) :
    Host.scatter scatter_S24x1_S2_S__n_01_01_0 (fun _ b => b) x place u (ix2 k 0) = if k.val = 16 then u ix0 else x (ix2 k 0) := by
  unfold Host.scatter
  simp only [place_idx]
  rw [show List.finRange S_.numel = [⟨0, by decide⟩] from rfl]
  show (if ix2 k 0 = ix2 16 0 then u _ else x (ix2 k 0)) = _
  by_cases h : k.val = 16
  · rw [if_pos h, if_pos (by rw [show k = 16 from Fin.ext h])]
    exact congrArg u (Subsingleton.elim _ _)
  · rw [if_neg h, if_neg fun e => h (congrArg (fun z => (z 0).val) e)]

/-- A column past the last: minus infinity in the bias's row, zero elsewhere. -/
theorem padCol_apply (k : Fin 24) : padCol (ix2 k 0) = if k.val = 16 then (⊥ : EReal) else 0 := by
  unfold padCol
  rw [scatter_at]
  refine if_congr Iff.rfl ?_ ?_
  · pointwise
    exact Ref.ofBits_bot
  · pointwise

variable (w : Vec Ideal S100000x16 .f32) (b : Vec Ideal S100000 .f32)

/-- The augmented weights at an index. -/
theorem aug_apply (k : Fin 24) (q : Fin 102400) : augmented w b (ix2 k q)
    = if h : q.val < 100000 then (if hk : k.val < 16 then w (ix2 ⟨q.val, h⟩ ⟨k.val, hk⟩) else if k.val = 16 then b (ix1 ⟨q.val, h⟩) else if k.val = 17 then (1 : EReal) else 0)
      else if k.val = 16 then (⊥ : EReal) else 0 := by
  pointwise [augmented]
  rw [padCol_apply]
  by_cases h : q.val < 100000
  · rw [dif_pos h, dif_pos h]
    pointwise [body]
    by_cases hk : k.val < 16
    · rw [dif_pos hk, dif_pos hk]
    · rw [dif_neg hk, dif_neg hk]
      by_cases h16 : k.val = 16
      · rw [dif_pos (by omega), if_pos h16]
      · rw [dif_neg (by omega), if_neg h16]
        by_cases h17 : k.val = 17
        · rw [dif_pos (by omega), if_pos h17]
        · rw [dif_neg (by omega), if_neg h17]
  · rw [dif_neg h, dif_neg h]

/-- Row `k` below sixteen is weight `k` of each column, -/
theorem aug_weight (k : Fin 16) (q : Fin 100000) : augmented w b (ix2 ⟨k.val, by omega⟩ ⟨q.val, by omega⟩) = w (ix2 q k) := by
  rw [aug_apply, dif_pos q.isLt, dif_pos k.isLt]
/-- row 16 its bias, -/
theorem aug_bias (q : Fin 100000) : augmented w b (ix2 16 ⟨q.val, by omega⟩) = b (ix1 q) := by
  rw [aug_apply, dif_pos q.isLt]; rfl
/-- row 17 a one, -/
theorem aug_one (q : Fin 100000) : augmented w b (ix2 17 ⟨q.val, by omega⟩) = (1 : EReal) := by
  rw [aug_apply, dif_pos q.isLt]; rfl
/-- and the rest zero. -/
theorem aug_zero (k : Fin 6) (q : Fin 102400) : augmented w b (ix2 ⟨18 + k.val, by omega⟩ q) = (0 : EReal) := by
  rw [aug_apply]
  split
  · rw [dif_neg (by show ¬ 18 + k.val < 16; omega), if_neg (by simp; omega), if_neg (by simp; omega)]
  · rw [if_neg (by simp; omega)]
/-- Past the last column row 16 is minus infinity, -/
theorem aug_pad_bias (q : Fin 102400) (h : 100000 ≤ q.val) : augmented w b (ix2 16 q) = (⊥ : EReal) := by
  rw [aug_apply, dif_neg (by omega)]; rfl
/-- and the others zero. -/
theorem aug_pad (k : Fin 24) (hk : k ≠ 16) (q : Fin 102400) (h : 100000 ≤ q.val) : augmented w b (ix2 k q) = (0 : EReal) := by
  rw [aug_apply, dif_neg (by omega), if_neg fun e => hk (Fin.ext (e.trans rfl))]

variable (m : (ℓ : Loc nD τ sig) → Buf (Elt Ideal) ℓ)

/-- The weights the TensorCore calls read. -/
theorem V3_weights (d : Dev nD) : V3 m d main_v18 = augmented (m ((d : Thread nD τ).loc main_arg2)) (m ((d : Thread nD τ).loc main_arg3)) := by
  refine (after_weights _).trans ?_
  unfold V2
  rw [update_ne _ main_v6 main_arg2 _ (by decide), update_ne _ main_v6 main_arg3 _ (by decide), V1_unwritten m d (by decide), V1_unwritten m d (by decide)]

/-- The operations before the gather leave the places -/
theorem after_groups (U : Valuation τ sig (Elt Ideal)) :
    StableHlo.after opsBefore U main_v5 = shapeCast S1024x1 (andi (U main_arg0 : S1024.Idx → BitVec 32) (fun _ => 7#32)) shapeCasts_S1024_S1024x1 := by
  rfl

/-- and the packed table. -/
theorem after_table (U : Valuation τ sig (Elt Ideal)) :
    StableHlo.after opsBefore U main_v0 = shapeCast S12500x128 (U main_arg1 : Vec Ideal S100000x16 .f32) shapeCasts_S100000x16_S12500x128 := by
  rfl

/-- The place of each index in its packed row. -/
theorem V3_group (d : Dev nD) (n : Fin 1024) : (V3 m d main_v5 : S1024x1.Idx → BitVec 32) (ix2 n 0) = BitVec.ofNat 32 ((idxOf m d (ix1 n)).toNat % 8) := by
  rw [V3_unwritten m d (by decide)]
  unfold V2
  rw [update_ne _ _ _ _ (by decide)]
  refine (congrFun (after_groups _) _).trans ?_
  pointwise
  show idxOf m d (ix1 n) &&& 7#32 = _
  apply BitVec.eq_of_toNat_eq
  rw [BitVec.toNat_and, show (7#32 : BitVec 32).toNat = 2 ^ 3 - 1 from rfl, Nat.and_two_pow_sub_one_eq_mod]
  rw [BitVec.toNat_ofNat]; omega

/-- The packed table, at the place an index names. -/
theorem table_apply (d : Dev nD) (i : Fin 100000) (k : Fin 16) (a : Fin 12500) (l : Fin 128) (ha : a.val = i.val / 8) (hl : l.val = 16 * (i.val % 8) + k.val) :
    (table m d : Vec Ideal S12500x128 .f32) (ix2 a l) = (m ((d : Thread nD τ).loc main_arg1) : Vec Ideal S100000x16 .f32) (ix2 i k) := by
  refine (congrFun (after_table _) _).trans ?_
  pointwise
  refine congrArg (m ((d : Thread nD τ).loc main_arg1) : Vec Ideal S100000x16 .f32) (congrArg₂ ix2 (Fin.ext ?_) (Fin.ext ?_))
  · show a.val * 8 + l.val / 16 = i.val; omega
  · show l.val % 16 = k.val; omega

/-- The packed row gathered for position `n` holds, at its index's place, the row of the table the index names. -/
theorem V3_rows (d : Dev nD) (n : Fin 1024) (h : (idxOf m d (ix1 n)).toNat < 100000) (k : Fin 16) (l : Fin 128)
    (hl : l.val = 16 * ((idxOf m d (ix1 n)).toNat % 8) + k.val) :
    (V3 m d main_v6 : Vec Ideal S1024x128 .f32) (ix2 n l) = (m ((d : Thread nD τ).loc main_arg1) : Vec Ideal S100000x16 .f32) (ix2 ⟨_, h⟩ k) := by
  rw [V3_unwritten m d (by decide), V2_gathered]
  have hr : rowsOf m d (at1024 n) = idxOf m d (ix1 n) >>> 3 := by
    rw [rowsOf_eq]
    exact congrArg (fun z => idxOf m d z >>> 3) (funext fun a => by match a with | ⟨0, _⟩ => rfl)
  have hq : (rowsOf m d (at1024 n)).toNat = (idxOf m d (ix1 n)).toNat / 8 := by
    rw [hr, BitVec.toNat_ushiftRight, Nat.shiftRight_eq_div_pow]
  have hp : packed (rowsOf m d (at1024 n)) l = ix2 ⟨(idxOf m d (ix1 n)).toNat / 8, by omega⟩ l := by
    funext a
    match a with
    | ⟨0, _⟩ => exact Fin.ext (by show (rowsOf m d (at1024 n)).toNat % 12500 = _; rw [hq]; exact Nat.mod_eq_of_lt (by omega))
    | ⟨1, _⟩ => rfl
  refine (congrArg (table m d : Vec Ideal S12500x128 .f32) hp).trans ?_
  exact table_apply m d ⟨_, h⟩ k _ l rfl hl

end Cert.Lse

end
-- ==== Proof.KernelValue.lean ====
/-
  The scores the kernel leaves, read at an index: the dot product of the row of embeddings and a row of weights, plus the
  bias, less the row's shift and the logarithm of the row's total; and that this is the reference's log-softmax.
-/
module

public import proofs.«01_k».proof.Proof.ArrValue
public import proofs.«01_k».proof.Proof.HostValue
public import proofs.«01_k».proof.Proof.Softmax

@[expose] public section

noncomputable section

namespace Cert.Lse

open Cert.KernelIdeal Cert.KernelIdeal.Gen

open Idealize.ShloMosaic
open Idealize.ShloMosaic.TcCoe

/-- A sum of 24 terms: the first sixteen, two more, and six that are zero. -/
theorem sum_24 (f : Fin 24 → EReal) (h : ∀ k : Fin 6, f ⟨18 + k.val, by omega⟩ = 0) :
    ∑ k : Fin 24, f k = (∑ k : Fin 16, f ⟨k.val, by omega⟩) + f 16 + f 17 := by
  have h0 := h 0; have h1 := h 1; have h2 := h 2; have h3 := h 3; have h4 := h 4; have h5 := h 5
  rw [Fin.sum_univ_castSucc, Fin.sum_univ_castSucc, Fin.sum_univ_castSucc, Fin.sum_univ_castSucc, Fin.sum_univ_castSucc, Fin.sum_univ_castSucc,
    Fin.sum_univ_castSucc, Fin.sum_univ_castSucc]
  refine (congrArg₂ (· + ·) (congrArg₂ (· + ·) (congrArg₂ (· + ·) (congrArg₂ (· + ·) (congrArg₂ (· + ·) (congrArg₂ (· + ·) rfl h0) h1) h2) h3) h4) h5).trans ?_
  simp only [add_zero]
  rfl

/-- A sum up to `N + M` whose last `M` terms are zero. -/
theorem sum_head (N M : ℕ) (f : ℕ → EReal) (g : Fin N → EReal) (hg : ∀ j : Fin N, f j.val = g j) (h0 : ∀ q, N ≤ q → f q = 0) :
    ∑ q ∈ Finset.range (N + M), f q = ∑ j : Fin N, g j := by
  rw [Finset.sum_range_add, Finset.sum_eq_zero (s := Finset.range M) fun q _ => h0 _ (by omega), add_zero, Finset.sum_range]
  exact Finset.sum_congr rfl fun j _ => hg j

section Row

variable (w : Vec Ideal S100000x16 .f32) (b : Vec Ideal S100000 .f32) (e : Vec Ideal S1024x24 .f32) (n : Fin 1024) (E : Fin 16 → EReal) (μ : EReal)
  (hE : ∀ k : Fin 16, e (ix2 n ⟨k.val, by omega⟩) = E k) (h16 : e (ix2 n 16) = (1 : EReal)) (h17 : e (ix2 n 17) = μ)
  (h18 : ∀ k : Fin 6, e (ix2 n ⟨18 + k.val, by omega⟩) = (0 : EReal))

include hE h16 h17 h18

/-- A row of the embeddings' array against a column of the weights. -/
theorem row_apply (q : Fin 100000) :
    ∑ k : Fin 24, e (ix2 n k) * augmented w b (ix2 k ⟨q.val, by omega⟩) = ((∑ k : Fin 16, E k * w (ix2 q k)) + b (ix1 q)) + μ := by
  refine (sum_24 (fun k => e (ix2 n k) * augmented w b (ix2 k ⟨q.val, by omega⟩)) fun k => by
    show e (ix2 n ⟨18 + k.val, by omega⟩) * _ = (0 : EReal); rw [h18, zero_mul]).trans ?_
  have ha : ∀ k : Fin 16, e (ix2 n ⟨k.val, by omega⟩) * augmented w b (ix2 ⟨k.val, by omega⟩ ⟨q.val, by omega⟩) = E k * w (ix2 q k) := fun k => by
    rw [hE, aug_weight]
  rw [Finset.sum_congr rfl fun k _ => ha k]
  show _ + e (ix2 n 16) * augmented w b (ix2 16 ⟨q.val, by omega⟩) + e (ix2 n 17) * augmented w b (ix2 17 ⟨q.val, by omega⟩) = _
  rw [h16, h17, aug_bias, aug_one, one_mul, mul_one]

/-- Against a column past the last it is minus infinity. -/
theorem row_pad (q : Fin 102400) (h : 100000 ≤ q.val) : ∑ k : Fin 24, e (ix2 n k) * augmented w b (ix2 k q) = (⊥ : EReal) := by
  refine (Finset.sum_eq_single (16 : Fin 24) (fun k _ hk => ?_) (fun h => absurd (Finset.mem_univ _) h)).trans ?_
  · rw [aug_pad w b k hk q h, mul_zero]
  · rw [h16, aug_pad_bias w b q h, one_mul]

/-- The row's total: over the columns that are there. -/
theorem row_total : ∑ l : Fin 128, acc e (augmented w b) 25 (ix2 n l)
    = ∑ j : Fin 100000, Ideal.exp (((∑ k : Fin 16, E k * w (ix2 j k)) + b (ix1 j)) + μ) := by
  rw [acc_total]
  refine sum_head 100000 2400 _ _ (fun j => ?_) fun q hq => ?_
  · unfold term
    rw [dif_pos (by omega), row_apply w b e n E μ hE h16 h17 h18 j]
  · unfold term
    split
    · next h => rw [row_pad w b e n E μ hE h16 h17 h18 ⟨q, h⟩ hq]; rfl
    · rfl

end Row

section Row2

variable (w : Vec Ideal S100000x16 .f32) (b : Vec Ideal S100000 .f32) (x : Vec Ideal S1024x128 .f32) (s : Vec Ideal S1024x1 .i32) (n : Fin 1024)
  (E : Fin 16 → ℝ) (W : Fin 100000 → Fin 16 → ℝ)
  (hE : ∀ k : Fin 16, embCols x s (ix2 n k) = ((E k : ℝ) : EReal)) (hW : ∀ (q : Fin 100000) (k : Fin 16), w (ix2 q k) = ((W q k : ℝ) : EReal))

include hE hW

/-- The products of what the first call leaves with the weights are the log-softmax of the scores. -/
theorem products_apply (q : Fin 100000) :
    products (embs2 (embs x s (augmented w b)) (acc (embs x s (augmented w b)) (augmented w b) 25)) (augmented w b) (ix2 n q)
      = ((((∑ k : Fin 16, E k * W q k : ℝ) : EReal) + b (ix1 q)) - Finset.univ.sup fun j : Fin 100000 => ((∑ k : Fin 16, E k * W j k : ℝ) : EReal) + b (ix1 j))
        - Ideal.log (∑ j : Fin 100000, Ideal.exp ((((∑ k : Fin 16, E k * W j k : ℝ) : EReal) + b (ix1 j))
            - Finset.univ.sup fun j : Fin 100000 => ((∑ k : Fin 16, E k * W j k : ℝ) : EReal) + b (ix1 j))) := by
  obtain ⟨ρ, hρ⟩ := negShift_real x s (augmented w b) n (fun k => ⟨_, hE k⟩) (fun k j => by
    by_cases h : j.val < 100000
    · exact ⟨W ⟨j.val, h⟩ k, (aug_weight w b k ⟨j.val, h⟩).trans (hW _ _)⟩
    · exact ⟨0, (aug_pad w b _ (fun e => by have := congrArg Fin.val e; simp at this; omega) j (by omega)).trans EReal.coe_zero.symm⟩)
  have hb : (fun j : Fin 100000 => augmented w b (ix2 16 ⟨j.val, by omega⟩)) = fun j => b (ix1 j) := funext fun j => aug_bias w b j
  rw [hb] at hρ
  have hs : ∀ j : Fin 100000, ∑ k : Fin 16, ((E k : ℝ) : EReal) * w (ix2 j k) = ((∑ k : Fin 16, E k * W j k : ℝ) : EReal) := fun j => by
    rw [← coe_sum]
    exact Finset.sum_congr rfl fun k _ => by rw [hW, EReal.coe_mul]
  have hT := row_total w b (embs x s (augmented w b)) n (fun k => ((E k : ℝ) : EReal)) _ (fun k => (embs_emb x s _ n k).trans (hE k)) (embs_one x s _ n)
    ((embs_shift x s _ n).trans hρ) (embs_zero x s _ n)
  have hR := row_apply w b (embs2 (embs x s (augmented w b)) (acc (embs x s (augmented w b)) (augmented w b) 25)) n (fun k => ((E k : ℝ) : EReal)) _
    (fun k => (embs2_keep n _ _ _ (fun e => by have := congrArg Fin.val e; simp at this; omega)).trans ((embs_emb x s _ n k).trans (hE k)))
    ((embs2_keep n _ _ 16 (by decide)).trans (embs_one x s _ n)) (embs2_shift n _ _)
    (fun k => (embs2_keep n _ _ _ (fun e => by have := congrArg Fin.val e; simp at this; omega)).trans (embs_zero x s _ n k)) q
  rw [embs_shift, hρ, hT] at hR
  simp only [hs] at hR
  exact hR.trans (log_softmax_eq (fun j => ∑ k : Fin 16, E k * W j k) (fun j => b (ix1 j)) ρ q)

end Row2

variable (m : (ℓ : Loc nD τ sig) → Buf (Elt Ideal) ℓ)

/-- With indices in range and the table and the weights finite, the scores the kernel leaves are the reference's. -/
theorem scores_softmax (d : Dev nD) (hi : ∀ j, (idxOf m d j).toNat < 100000)
    (hx : ∀ i, ∃ r : ℝ, (m ((d : Thread nD τ).loc main_arg1) : Vec Ideal S100000x16 .f32) i = (r : EReal))
    (hw : ∀ i, ∃ r : ℝ, (m ((d : Thread nD τ).loc main_arg2) : Vec Ideal S100000x16 .f32) i = (r : EReal)) :
    (scores (V4 m) d : Vec Ideal S1024x100000 .f32)
      = Ref.softmax (Ref.logits (Ref.taken (idxOf m d) (m ((d : Thread nD τ).loc main_arg1))) (m ((d : Thread nD τ).loc main_arg2)) (m ((d : Thread nD τ).loc main_arg3))) := by
  choose X hX using hx
  choose W hW using hw
  have hV19 : V4 m d main_v19 = finished (V3 m) d := Function.update_self _ _ _
  have hV18 : V4 m d main_v18 = V3 m d main_v18 := update_ne _ main_v19 main_v18 _ (by decide)
  rw [scores_eq, hV19, hV18, finished_eq]
  unfold finBlk accArr embArr
  rw [rowsBlk_eq, groupBlk_eq, weightsBlk_eq, V3_weights]
  funext i
  obtain ⟨n, q, rfl⟩ : ∃ n q, i = ix2 n q := ⟨i 0, i 1, funext fun a => by match a with | ⟨0, _⟩ => rfl | ⟨1, _⟩ => rfl⟩
  have hE : ∀ k : Fin 16, embCols (V3 m d main_v6) (V3 m d main_v5) (ix2 n k) = ((X (ix2 ⟨_, hi (ix1 n)⟩ k) : ℝ) : EReal) := fun k => by
    rw [embCols_apply _ _ n k ⟨(idxOf m d (ix1 n)).toNat % 8, Nat.mod_lt _ (by decide)⟩ (V3_group m d n),
      V3_rows m d n (hi (ix1 n)) k _ rfl]
    exact hX _
  refine (products_apply _ _ (V3 m d main_v6) (V3 m d main_v5) n (fun k => X (ix2 ⟨_, hi (ix1 n)⟩ k)) (fun q k => W (ix2 q k)) hE (fun q k => hW _) q).trans ?_
  have hl : ∀ j : Fin 100000, Ref.logits (Ref.taken (idxOf m d) (m ((d : Thread nD τ).loc main_arg1))) (m ((d : Thread nD τ).loc main_arg2))
      (m ((d : Thread nD τ).loc main_arg3)) (ix2 n j)
      = ((∑ k : Fin 16, X (ix2 ⟨_, hi (ix1 n)⟩ k) * W (ix2 j k) : ℝ) : EReal) + (m ((d : Thread nD τ).loc main_arg3) : Vec Ideal S100000 .f32) (ix1 j) := fun j => by
    rw [Ref.logits_apply, ← coe_sum]
    refine congrArg (· + _) (Finset.sum_congr rfl fun k _ => ?_)
    rw [Ref.taken_apply _ _ n k fun n => hi (ix1 n), hX, hW, EReal.coe_mul]
  rw [Ref.softmax_apply]
  simp only [hl]

end Cert.Lse

end
-- ==== Proof.Algebraic.lean ====
/-
  The equation: read exactly, from the same arguments, the kernel and the reference end with the same log-softmax.
-/
module

public import proofs.«01_k».proof.Proof.Frames
public import proofs.«01_k».proof.Proof.KernelValue

@[expose] public section

noncomputable section

namespace Cert.Lse

open Idealize.ShloMosaic Idealize.SL.Sem

/-- Where the indices are in range and the table and the weights finite, both runs end with equal results. -/
theorem algebraic : Cert.algebraic_KernelIdeal_ReferenceIdeal_pre_finite_and_in_range := by
  intro m g m' g' hpre hag
  have hp := fun d => finite_of_pre _ _ _ _ (hpre d)
  refine ⟨fun c => scores (V4 m) c, ?_, ?_⟩
  · exact (θ_run Cert.KernelIdeal.defs _ _).mono (fun _ h => h.1) (run_main m g fun d => (hp d).1)
  · refine (θ_run Cert.ReferenceIdeal.defs _ _).mono (fun r h c => ⟨(h c).1.trans ?_, (h c).2⟩) (Cert.ReferenceIdeal.Value.run (F := Ideal) m' g')
    obtain ⟨h0, h1, h2, h3⟩ := hag c
    rw [Ref.res_eq, h0, h1, h2, h3]
    exact (scores_softmax m c (hp c).1 (hp c).2.1 (hp c).2.2).symm

end Cert.Lse

end
-- ==== Proof.lean ====
module

public import proofs.«01_k».proof.Defs
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Pre_in_range.Gen.facts,
    Cert.Pre_finite_and_in_range.Gen.facts, Cert.Lse.frame_kernel, Cert.Lse.frame_ideal, Cert.Lse.frame_ideal_finite,
    Cert.Lse.frame_reference, Cert.Lse.frame_reference_finite, trivial, Cert.Lse.algebraic⟩

end Cert.Proof

end
